-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![4096, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![4096, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![4096, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x16 : Shape := ⟨2, ![256, 16]⟩
abbrev S1024x1 : Shape := ⟨2, ![1024, 1]⟩
abbrev S4x256x512 : Shape := ⟨3, ![4, 256, 512]⟩
abbrev S1024x512 : Shape := ⟨2, ![1024, 512]⟩
abbrev S4x4x256x512 : Shape := ⟨4, ![4, 4, 256, 512]⟩
abbrev S4x1x16 : Shape := ⟨3, ![4, 1, 16]⟩
abbrev S3 : Shape := ⟨1, ![3]⟩
abbrev S1x4x256x512 : Shape := ⟨4, ![1, 4, 256, 512]⟩
abbrev S1x16 : Shape := ⟨2, ![1, 16]⟩
abbrev S1024x16 : Shape := ⟨2, ![1024, 16]⟩
abbrev S16 : Shape := ⟨1, ![16]⟩
abbrev S1x1x16 : Shape := ⟨3, ![1, 1, 16]⟩
abbrev S_ : Shape := ⟨0, ![]⟩
abbrev S1 : Shape := ⟨1, ![1]⟩
abbrev S1024x1024 : Shape := ⟨2, ![1024, 1024]⟩
abbrev S1x1x256x512 : Shape := ⟨4, ![1, 1, 256, 512]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x256, .bf16⟩
  | .hbm, ⟨1, _⟩ => ⟨S256x16, .bf16⟩
  | .hbm, ⟨2, _⟩ => ⟨S1024x1, .i32⟩
  | .hbm, ⟨3, _⟩ => ⟨S4x256x512, .bf16⟩
  | .hbm, ⟨4, _⟩ => ⟨S1024x512, .f32⟩
  | .local _ .vmem, ⟨0, _⟩ => ⟨S1024x256, .bf16⟩
  | .local _ .vmem, ⟨1, _⟩ => ⟨S1024x1, .i32⟩
  | .local _ .vmem, ⟨2, _⟩ => ⟨S4x256x512, .bf16⟩
  | .local _ .vmem, ⟨3, _⟩ => ⟨S1024x512, .f32⟩
  | .local _ .vmem, ⟨4, _⟩ => ⟨S4x4x256x512, .bf16⟩
  | .local _ .vmem, ⟨5, _⟩ => ⟨S4x1x16, .f32⟩
  | .local _ .vmem, ⟨6, _⟩ => ⟨S4x1x16, .f32⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_71 : BitVec 32 := 1#32
  let v201 : BitVec 32 := Scalar.addi v2 c1_i32_71
  let c4_i32_72 : BitVec 32 := 4#32
  let v202 : BitVec 32 := Scalar.remsi v201 c4_i32_72
  let c1_i32_74 : BitVec 32 := 1#32
  let v203 : BitVec 32 := Scalar.muli v202 c1_i32_74
  let v204 : BitVec 32 := Scalar.addi c0_i32_75 v203
  v204.toNat
def k0_dev2 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_76 : BitVec 32 := 2#32
  let v205 : BitVec 32 := Scalar.addi v2 c2_i32_76
  let c4_i32_77 : BitVec 32 := 4#32
  let v206 : BitVec 32 := Scalar.remsi v205 c4_i32_77
  let c1_i32_79 : BitVec 32 := 1#32
  let v207 : BitVec 32 := Scalar.muli v206 c1_i32_79
  let v208 : BitVec 32 := Scalar.addi c0_i32_80 v207
  v208.toNat
def k0_dev3 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_81 : BitVec 32 := 3#32
  let v209 : BitVec 32 := Scalar.addi v2 c3_i32_81
  let c4_i32_82 : BitVec 32 := 4#32
  let v210 : BitVec 32 := Scalar.remsi v209 c4_i32_82
  let c1_i32_84 : BitVec 32 := 1#32
  let v211 : BitVec 32 := Scalar.muli v210 c1_i32_84
  let v212 : BitVec 32 := Scalar.addi c0_i32_85 v211
  v212.toNat
def k0_dev4 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_87 : BitVec 32 := 1#32
  let v213 : BitVec 32 := Scalar.addi v2 c1_i32_87
  let c4_i32_88 : BitVec 32 := 4#32
  let v214 : BitVec 32 := Scalar.remsi v213 c4_i32_88
  let c1_i32_93 : BitVec 32 := 1#32
  let v215 : BitVec 32 := Scalar.muli v214 c1_i32_93
  let v216 : BitVec 32 := Scalar.addi c0_i32_94 v215
  v216.toNat
def k0_dev5 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_87 : BitVec 32 := 1#32
  let v213 : BitVec 32 := Scalar.addi v2 c1_i32_87
  let c4_i32_88 : BitVec 32 := 4#32
  let v214 : BitVec 32 := Scalar.remsi v213 c4_i32_88
  let c1_i32_103 : BitVec 32 := 1#32
  let v225 : BitVec 32 := Scalar.muli v214 c1_i32_103
  let v226 : BitVec 32 := Scalar.addi c0_i32_104 v225
  v226.toNat
def k0_dev6 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_111 : BitVec 32 := 2#32
  let v235 : BitVec 32 := Scalar.addi v2 c2_i32_111
  let c4_i32_112 : BitVec 32 := 4#32
  let v236 : BitVec 32 := Scalar.remsi v235 c4_i32_112
  let c1_i32_117 : BitVec 32 := 1#32
  let v237 : BitVec 32 := Scalar.muli v236 c1_i32_117
  let v238 : BitVec 32 := Scalar.addi c0_i32_118 v237
  v238.toNat
def k0_dev7 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_111 : BitVec 32 := 2#32
  let v235 : BitVec 32 := Scalar.addi v2 c2_i32_111
  let c4_i32_112 : BitVec 32 := 4#32
  let v236 : BitVec 32 := Scalar.remsi v235 c4_i32_112
  let c1_i32_127 : BitVec 32 := 1#32
  let v247 : BitVec 32 := Scalar.muli v236 c1_i32_127
  let v248 : BitVec 32 := Scalar.addi c0_i32_128 v247
  v248.toNat
def k0_dev8 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_135 : BitVec 32 := 3#32
  let v257 : BitVec 32 := Scalar.addi v2 c3_i32_135
  let c4_i32_136 : BitVec 32 := 4#32
  let v258 : BitVec 32 := Scalar.remsi v257 c4_i32_136
  let c1_i32_141 : BitVec 32 := 1#32
  let v259 : BitVec 32 := Scalar.muli v258 c1_i32_141
  let v260 : BitVec 32 := Scalar.addi c0_i32_142 v259
  v260.toNat
def k0_dev9 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_135 : BitVec 32 := 3#32
  let v257 : BitVec 32 := Scalar.addi v2 c3_i32_135
  let c4_i32_136 : BitVec 32 := 4#32
  let v258 : BitVec 32 := Scalar.remsi v257 c4_i32_136
  let c1_i32_151 : BitVec 32 := 1#32
  let v269 : BitVec 32 := Scalar.muli v258 c1_i32_151
  let v270 : BitVec 32 := Scalar.addi c0_i32_152 v269
  v270.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x256 : Shape := ⟨2, ![4096, 256]⟩
abbrev S256x16 : Shape := ⟨2, ![256, 16]⟩
abbrev S4096x1 : Shape := ⟨2, ![4096, 1]⟩
abbrev S16x256x512 : Shape := ⟨3, ![16, 256, 512]⟩
abbrev S16 : Shape := ⟨1, ![16]⟩
abbrev S1x16 : Shape := ⟨2, ![1, 16]⟩
abbrev S4096x16 : Shape := ⟨2, ![4096, 16]⟩
abbrev S_ : Shape := ⟨0, ![]⟩
abbrev S4096x16x512 : Shape := ⟨3, ![4096, 16, 512]⟩
abbrev S4096x16x1 : Shape := ⟨3, ![4096, 16, 1]⟩
abbrev S4096x512 : Shape := ⟨2, ![4096, 512]⟩

abbrev nBuf : Space → Nat
  | .hbm => 35
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x16, .bf16⟩
  | .hbm, ⟨2, _⟩ => ⟨S4096x1, .i32⟩
  | .hbm, ⟨3, _⟩ => ⟨S16x256x512, .bf16⟩
  | .hbm, ⟨4, _⟩ => ⟨S16, .i32⟩
  | .hbm, ⟨5, _⟩ => ⟨S1x16, .i32⟩
  | .hbm, ⟨6, _⟩ => ⟨S4096x16, .i32⟩
  | .hbm, ⟨7, _⟩ => ⟨S4096x16, .i32⟩
  | .hbm, ⟨8, _⟩ => ⟨S4096x16, .i1⟩
  | .hbm, ⟨9, _⟩ => ⟨S4096x16, .i32⟩
  | .hbm, ⟨10, _⟩ => ⟨S_, .i32⟩
  | .hbm, ⟨11, _⟩ => ⟨S_, .i32⟩
  | .hbm, ⟨12, _⟩ => ⟨S4096x16, .i32⟩
  | .hbm, ⟨13, _⟩ => ⟨S4096x16, .i32⟩
  | .hbm, ⟨14, _⟩ => ⟨S_, .i32⟩
  | .hbm, ⟨15, _⟩ => ⟨S4096x16, .i32⟩
  | .hbm, ⟨16, _⟩ => ⟨S4096x16, .i1⟩
  | .hbm, ⟨17, _⟩ => ⟨S_, .i32⟩
  | .hbm, ⟨18, _⟩ => ⟨S4096x16, .i32⟩
  | .hbm, ⟨19, _⟩ => ⟨S4096x16, .i1⟩
  | .hbm, ⟨20, _⟩ => ⟨S4096x16, .i1⟩
  | .hbm, ⟨21, _⟩ => ⟨S_, .f32⟩
  | .hbm, ⟨22, _⟩ => ⟨S_, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x256, .f32⟩
  | .hbm, ⟨27, _⟩ => ⟨S16x256x512, .f32⟩
  | .hbm, ⟨28, _⟩ => ⟨S4096x16x512, .f32⟩
  | .hbm, ⟨29, _⟩ => ⟨S4096x16x1, .f32⟩
  | .hbm, ⟨30, _⟩ => ⟨S4096x16x1, .f32⟩
  | .hbm, ⟨31, _⟩ => ⟨S4096x16x512, .f32⟩
  | .hbm, ⟨32, _⟩ => ⟨S4096x16x512, .f32⟩
  | .hbm, ⟨33, _⟩ => ⟨S_, .f32⟩
  | .hbm, ⟨34, _⟩ => ⟨S4096x512, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== Proof.Access.lean ====
/-
# Reading, writing and sending parts of a buffer

The scratch buffers of the kernel are cut into four slots along dimension 0, and each slot is read, written, copied out
or copied into while the other slots are held by somebody else.  A slot is a slice `m.slice r` of a buffer `m`;
`owns c (m.slice r) q X` says that device `c` holds the share `q` of the slot and that it contains `X`.  This module
states the load, the store and the remote copy in terms of such slots.  A copy goes through the slot with its leading
dimension of size one dropped on both sides; since both sides drop it the same way, the contents are carried unchanged.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.MemrefSat
public import Idealize.ShloMosaic.Lib.ViewIndex
public import Idealize.ShloMosaic.Lib.Ring
public import Idealize.ShloMosaic.Lib.Tactic

@[expose] public section

set_option maxRecDepth 16384

noncomputable section

namespace Cert.KernelIdeal.Wire

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state: rounds over the semaphore cells, a duty named by a shift of the ring. -/
abbrev UB : Type := URounds (GSem nD τ sig) (Fin 3)
/-- The staging pipeline's ghost state beside the protocol's. -/
abbrev UU : Type := UR sig nD τ × UB

local notation "𝕄" => MT nD τ sig Unit (Elt F) ℕ UU ℕ

abbrev 𝒱₀ : Variants := Variants.none

section Slots

variable {α : Type} {s s' : Shape} {e : EltTy} (c : Dev nD)

/-- A load of a slot held with contents `X`, at any share, reads `X` and gives the slot back. -/
theorem wp_load_slot (m : Memref sig .tc .vmem s e) (r : Rect s) (hr : ∀ a, r.stride a = 1) (q : PosShare TreeShare)
    (X : r.shape.Idx → Elt F e) {hl : m.view.LoadsAt r.toLoadRect}
    {k : (r.shape.Idx → Elt F e) → Prog (TpuEff nD τ sig (Elt F) Λ₀ .tc) α} {Q : α → sProp 𝕄} :
    (owns (c : Thread nD τ) (m.slice r hr) q X : sProp 𝕄)
      ⊢ iprop((owns (c : Thread nD τ) (m.slice r hr) q X
            -∗ wp frame (wpE (defs₀ (F := F)) 𝒱₀ (c : Thread nD τ) none) Set.univ (k X) Q)
          -∗ wp frame (wpE (defs₀ (F := F)) 𝒱₀ (c : Thread nD τ) none) Set.univ (.op (.load m r.toLoadRect hl) k) Q) := by
  iintro H Hk
  unfold owns
  icases H with ⟨%f, %hf, H⟩
  have h := wp_load_rect 𝒱₀ (c : Thread nD τ) none Set.univ (Γ := .empty) (Q := Q) (defs := defs₀ (F := F)) (m := m) (r := r) (hl := hl) (k := k)
    (S := (m.slice r hr).view.set) (q := q) (f := f) (by exact Finset.Subset.refl _)
  have hf' : (m.access r).read (Elt F) f = X := hf
  rw [hf'] at h
  iapply h $$ [H]
  · iexact H
  iintro H
  iapply Hk
  iexists f
  isplitr
  · ipureintro; exact hf
  · iexact H

/-- A load of a part `r'` of a slot `r`: with `p` the position of the part's elements in the slot, it reads `X ∘ p`. -/
theorem wp_load_part (m : Memref sig .tc .vmem s e) (r : Rect s) (hr : ∀ a, r.stride a = 1) (q : PosShare TreeShare)
    (X : r.shape.Idx → Elt F e) (r' : Rect s) (p : r'.shape.Idx → r.shape.Idx) (hp : ∀ i, r'.emb i = r.emb (p i))
    {hl : m.view.LoadsAt r'.toLoadRect} {k : (r'.shape.Idx → Elt F e) → Prog (TpuEff nD τ sig (Elt F) Λ₀ .tc) α} {Q : α → sProp 𝕄} :
    (owns (c : Thread nD τ) (m.slice r hr) q X : sProp 𝕄)
      ⊢ iprop((owns (c : Thread nD τ) (m.slice r hr) q X
            -∗ wp frame (wpE (defs₀ (F := F)) 𝒱₀ (c : Thread nD τ) none) Set.univ (k fun i => X (p i)) Q)
          -∗ wp frame (wpE (defs₀ (F := F)) 𝒱₀ (c : Thread nD τ) none) Set.univ (.op (.load m r'.toLoadRect hl) k) Q) := by
  iintro H Hk
  unfold owns
  icases H with ⟨%f, %hf, H⟩
  have hsub : (m.access r').set ⊆ (m.slice r hr).view.set := by
    intro i hi
    obtain ⟨j, -, rfl⟩ := Finset.mem_map.mp hi
    exact Finset.mem_map.mpr ⟨p j, Finset.mem_univ _, by
      show m.view.emb (r.emb (p j)) = m.view.emb (r'.emb j)
      rw [hp]⟩
  have h := wp_load_rect 𝒱₀ (c : Thread nD τ) none Set.univ (Γ := .empty) (Q := Q) (defs := defs₀ (F := F)) (m := m) (r := r') (hl := hl) (k := k)
    (S := (m.slice r hr).view.set) (q := q) (f := f) hsub
  have hf' : (m.access r').read (Elt F) f = fun i => X (p i) := by
    subst hf
    funext i
    show m.view.read (Elt F) f (r'.emb i) = m.view.read (Elt F) f (r.emb (p i))
    rw [hp]
  rw [hf'] at h
  iapply h $$ [H]
  · iexact H
  iintro H
  iapply Hk
  iexists f
  isplitr
  · ipureintro; exact hf
  · iexact H

/-- A store over a whole slot held in full: whatever it held, it holds what was stored. -/
theorem wp_store_slot (m : Memref sig .tc .vmem s e) (r : Rect s) (hr : ∀ a, r.stride a = 1) (X w : r.shape.Idx → Elt F e)
    {hx : (m.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (owns (c : Thread nD τ) (m.slice r hr) fullShare X : sProp 𝕄)
      ⊢ iprop((owns (c : Thread nD τ) (m.slice r hr) fullShare w
            -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hx hm) k) Q) := by
  iintro H Hk
  unfold owns
  icases H with ⟨%f, %hf, H⟩
  iapply (wp_store 𝒱₀ (c : Thread nD τ) none Set.univ (Q := Q) (defs := defs₀ (F := F)) (m := m) (r := r) (w := w) (hx := hx)
    (hm := hm) (k := k) (S := (m.slice r hr).view.set) (f := f) (by exact Finset.Subset.refl _)) $$ [H]
  · iexact H
  iintro H
  iapply Hk
  iexists ((m.access r).write (Elt F) f w Finset.univ)
  isplitr
  · ipureintro; exact View.read_write_univ _ _
  · iexact H

/-- Dropping a slot's unit dimension does not change which elements it is. -/
theorem set_squeeze (m : Memref sig .tc .vmem s e) (h : s.Squeezes s') : (m.squeeze s' h).view.set = m.view.set :=
  View.set_reshape _ h.numel_eq

/-- A copy from a slot to a slot, both with the unit dimension dropped, leaves the target holding the source's contents. -/
theorem read_copied {m₁ m₂ : Memref sig .tc .vmem s e} (h₁ h₂ : s.Squeezes s')
    (f : m₂.view.ty.Contents (Elt F)) (g : m₁.view.ty.Contents (Elt F)) :
    m₂.view.read (Elt F) ((m₂.squeeze s' h₂).view.write (Elt F) f ((m₁.squeeze s' h₁).view.read (Elt F) g) Finset.univ)
      = m₁.view.read (Elt F) g := by
  funext x
  have hx := congrFun (View.read_write_univ (v := (m₂.squeeze s' h₂).view) f ((m₁.squeeze s' h₁).view.read (Elt F) g))
    ((Shape.reshapeEquiv h₂.numel_eq).symm x)
  have e₂ : ∀ f', (m₂.squeeze s' h₂).view.read (Elt F) f' ((Shape.reshapeEquiv h₂.numel_eq).symm x) = m₂.view.read (Elt F) f' x := by
    intro f'
    show m₂.view.read (Elt F) f' (Shape.reshapeEquiv h₂.numel_eq ((Shape.reshapeEquiv h₂.numel_eq).symm x)) = _
    rw [Equiv.apply_symm_apply]
  have e₁ : (m₁.squeeze s' h₁).view.read (Elt F) g ((Shape.reshapeEquiv h₂.numel_eq).symm x) = m₁.view.read (Elt F) g x := by
    show m₁.view.read (Elt F) g (Shape.reshapeEquiv h₁.numel_eq ((Shape.reshapeEquiv h₂.numel_eq).symm x)) = _
    rw [Equiv.apply_symm_apply]
  rw [e₂, e₁] at hx
  exact hx

/-- A remote copy from a slot of device `c` (held at any share, containing `X`) to a slot of device `c'` (held in full), as one
    payment to the sender's own semaphore, of the source slot, and one to the receiver's semaphore, of the filled target. -/
theorem wp_send_slot (ER : Emb UB 𝕄) (Rd : Rounds.Schedule (GSem nD τ sig) (Fin 3) 𝕄) (c' n : Dev nD) (hn : n = c')
    (m₁ m₂ : Memref sig .tc .vmem s e) (h₁ h₂ : s.Squeezes s') (sS sR : SemLoc sig) (q : PosShare TreeShare) (X : s.Idx → Elt F e)
    (N : ℕ) (hN : (m₂.squeeze s' h₂).view.amount sR = N) (hd₁ : (0 : Fin 3) ∈ Rd.duties ((c : Thread nD τ), sS) 0)
    (hd₂ : (0 : Fin 3) ∈ Rd.duties ((c' : Thread nD τ), sR) 0) (hk₁ : Rd.amount ((c : Thread nD τ), sS) 0 0 = N)
    (hk₂ : Rd.amount ((c' : Thread nD τ), sR) 0 0 = N)
    (hp₁ : (owns (c : Thread nD τ) m₁ q X : sProp 𝕄) ⊢ Rd.payload ((c : Thread nD τ), sS) 0 0)
    (hp₂ : (owns (c' : Thread nD τ) m₂ fullShare X : sProp 𝕄) ⊢ Rd.payload ((c' : Thread nD τ), sR) 0 0)
    (κ₁ κ₂ : ℕ) (O : CellTallies nD τ sig Unit) (Wt : Waits sig Unit)
    {hsc : (m₂.squeeze s' h₂ : Memref sig (Dev.tc n : Thread nD τ).2.kind .vmem s' e).view.ref.isScScratch = false}
    {hsrc : (m₁.squeeze s' h₁).view.WordExact} {hdst : (m₂.squeeze s' h₂).view.WordExact}
    {hsem : DmaTarget.Typed .vmem sR (.remote (Dev.tc n : Thread nD τ) (m₂.squeeze s' h₂) sS hsc)}
    {k : PUnit → Prog (TpuEff nD τ sig (Elt F) Λ₀ .tc) α} {Q : α → sProp 𝕄} :
    iprop(cellInv ER Rd κ₁ ((c : Thread nD τ), sS) ∗ cellInv ER Rd κ₂ ((c' : Thread nD τ), sR)
        ∗ owns (c : Thread nD τ) m₁ q X ∗ (∃ Y, owns (c' : Thread nD τ) m₂ fullShare Y)
        ∗ owes (c : Thread nD τ) (O + tallyAt ((c' : Thread nD τ), sR) () N) Wt
        ∗ dutyTok ER ((c : Thread nD τ), sS) 0 0 ∗ reached ER ((c : Thread nD τ), sS) 0
        ∗ dutyTok ER ((c' : Thread nD τ), sR) 0 0 ∗ reached ER ((c' : Thread nD τ), sR) 0)
      ⊢ iprop(((cred (tallyAt ((c : Thread nD τ), sS) () N) ∗ owes (c : Thread nD τ) O Wt)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (m₁.squeeze s' h₁) (.remote (Dev.tc n : Thread nD τ) (m₂.squeeze s' h₂) sS hsc) sR hsrc hdst hsem) k) Q) := by
  subst hn
  iintro ⟨#I₁, #I₂, HX, HY, HO, T₁, #R₁, T₂, #R₂⟩
  unfold owns
  icases HX with ⟨%f, %hf, HX⟩
  icases HY with ⟨%Y, %g, %hg, HY⟩
  have hs₁ : ((m₁.squeeze s' h₁).view.loc (c : Thread nD τ) ↦[(m₁.squeeze s' h₁).view.set]{q} f : sProp 𝕄)
      ⊢ owns (c : Thread nD τ) m₁ q X := by
    unfold owns
    rw [set_squeeze]
    iintro H
    iexists f
    isplitr
    · ipureintro; exact hf
    · iexact H
  have hs₂ : ((m₂.squeeze s' h₂).view.loc (n : Thread nD τ) ↦[(m₂.squeeze s' h₂).view.set]{fullShare}
        (m₂.squeeze s' h₂).view.write (Elt F) g ((m₁.squeeze s' h₁).view.read (Elt F) f) Finset.univ : sProp 𝕄)
      ⊢ owns (n : Thread nD τ) m₂ fullShare X := by
    unfold owns
    rw [set_squeeze]
    iintro H
    iexists ((m₂.squeeze s' h₂).view.write (Elt F) g ((m₁.squeeze s' h₁).view.read (Elt F) f) Finset.univ)
    isplitr
    · ipureintro; exact (read_copied h₁ h₂ g f).trans hf
    · iexact H
  iapply (Rounds.wp_send_pointsTo 𝒱₀ ER Rd (c : Thread nD τ) none (defs := defs₀ (F := F)) (c' := (n : Thread nD τ)) (src := m₁.squeeze s' h₁)
    (dst := m₂.squeeze s' h₂) (q := q) (fs := f) (fd := g) (κ₁ := κ₁) (κ₂ := κ₂) (r₁ := 0) (r₂ := 0) (d₁ := 0) (d₂ := 0)
    (k := k) (Q := Q) hd₁ hd₂ () () N hN hk₁ hk₂ O rfl (W := Wt)
    (hs₁.trans hp₁) (hs₂.trans hp₂))
  rw [set_squeeze, set_squeeze]
  iframe HX HY HO T₁ T₂ I₁ I₂ R₁ R₂

end Slots

end Cert.KernelIdeal.Wire
-- ==== Proof.Contents.lean ====
/-
# What every buffer holds

The contents the kernel's buffers take on one device, as functions of the blocks all four devices start from: `X c` is
device `c`'s block of the tokens, `R c` its route indices and `W c` its four experts' matrices.  The values are written with
the generated payload functions, one per stored value, so they are the kernel's own arithmetic.
-/
module

public import proofs.«01_k».proof.Proof.Access

@[expose] public section

set_option maxRecDepth 16384

noncomputable section

namespace Cert.KernelIdeal.Wire

open Cert.KernelIdeal Cert.KernelIdeal.Gen

open Idealize.ShloMosaic
open Idealize.ShloMosaic.TcCoe

variable {F : FTy → Type} [FloatOps F]

/-! ## The ring of devices -/

set_option backward.proofsInPublic true in
/-- The device `k + 1` places after `c` around the ring. -/
def fwd (k : Fin 3) (c : Dev nD) : Dev nD := ⟨(c.val + (k.val + 1)) % 4, Nat.mod_lt _ (by decide)⟩
set_option backward.proofsInPublic true in
/-- The device `k + 1` places before `c`. -/
def bwd (k : Fin 3) (c : Dev nD) : Dev nD := ⟨(c.val + (3 - k.val)) % 4, Nat.mod_lt _ (by decide)⟩

theorem bwd_fwd (k : Fin 3) (c : Dev nD) : bwd k (fwd k c) = c := by revert k c; decide
theorem fwd_bwd (k : Fin 3) (c : Dev nD) : fwd k (bwd k c) = c := by revert k c; decide
/-- Going on by `k + 1` and then by the rest of the circle comes back. -/
theorem fwd_rev_fwd (k : Fin 3) (c : Dev nD) : fwd k.rev (fwd k c) = c := by revert k c; decide

/-- Going `k + 1` places on is a permutation of the devices. -/
def turn (k : Fin 3) : Dev nD ≃ Dev nD := ⟨fwd k, bwd k, bwd_fwd k, fwd_bwd k⟩

/-- The slot number `k + 1` among the four. -/
abbrev up (k : Fin 3) : Fin 4 := k.succ

/-! ## Values -/

/-- The device's position along the mesh axis, as the kernel computes it. -/
abbrev pos (c : Dev nD) : BitVec 32 := Scalar.remsi (Scalar.divsi (Dev.word c) 1#32) 4#32

/-- The sixteen column numbers. -/
abbrev cols : IVec S1x16 32 := iota .tc S1x16 32 [1] iota_S1x16_d1_w32

variable (X : Dev nD → Vec F S1024x256 .bf16) (R : Dev nD → Vec F S1024x1 .i32) (W : Dev nD → Vec F S4x256x512 .bf16)

/-- The counts device `c` sends `k + 1` places on: how many of its tokens ask for each expert, the columns in the
    receiver's order. -/
def cnt (c : Dev nD) : Fin 3 → FVec F S1x1x16 .f32
  | 0 => k0_pay5 (F := F) (k0_pay2 (F := F) (R c)) cols k0_pay3 (k0_pay4 c)
  | 1 => k0_pay12 (F := F) (k0_pay6 (F := F) (R c)) (k0_pay8 (Scalar.remsi (Scalar.addi (pos c) 2#32) 4#32) cols 4#32 k0_pay7)
      (k0_pay9 cols) (k0_pay10 cols) (k0_pay11 cols)
  | 2 => k0_pay15 (F := F) (k0_pay13 (F := F) (R c)) cols (k0_pay14 (pos c)) 4#32

/-- Device `c`'s experts' matrices, as it stores them in slot 0 and sends them to everybody. -/
def wts (c : Dev nD) : FVec F S1x4x256x512 .bf16 := k0_pay1 (W c)

set_option backward.proofsInPublic true in
/-- Element `i` of a matrix, as an element of matrix `j` of a slot. -/
def inSlot (j : Fin 4) (i : S1x1x256x512.Idx) : S1x4x256x512.Idx := fun a => match a with
  | ⟨0, _⟩ => i 0
  | ⟨1, _⟩ => j
  | ⟨2, _⟩ => i 2
  | ⟨3, _⟩ => i 3

/-- Matrix `j` of device `c`. -/
def mat (c : Dev nD) (j : Fin 4) : Vec F S1x1x256x512 .bf16 := fun i => wts W c (inSlot j i)

/-- The tokens. -/
def tok (c : Dev nD) : FVec F S1024x256 .bf16 := k0_pay22 (X c)
/-- The one-hot rows of the tokens' experts. -/
def oneHot (c : Dev nD) : FVec F S1024x16 .f32 :=
  k0_pay20 (pos c) (k0_pay16 (F := F) (R c)) cols 4#32 k0_pay17 k0_pay18 k0_pay19
/-- Running counts of the one-hot rows before each token. -/
def rank (c : Dev nD) : FVec F S1024x16 .f32 := k0_pay21 (oneHot R c) (iota .tc S1024x1024 32 [0] iota_S1024x1024_d0_w32)
/-- Which tokens are served, column by column. -/
def keep (c : Dev nD) : FVec F S1024x16 .bf16 :=
  k0_pay23 (pos c) (oneHot R c) (rank R c) (cnt R (bwd 0 c) 0) (cnt R (bwd 1 c) 1) (cnt R (bwd 2 c) 2)

/-- The accumulated products after the four matrices of slot 0, -/
def acc0 (c : Dev nD) : FVec F S1024x512 .f32 :=
  k0_pay26 (tok X c) (keep R c) k0_pay24
    (k0_pay25 (pos c) (oneHot R c) (rank R c) (tok X c) (cnt R (bwd 0 c) 0) (cnt R (bwd 1 c) 1) (cnt R (bwd 2 c) 2))
    (mat W c 0) (mat W c 1) (mat W c 2) (mat W c 3)
/-- after those of slot 1, -/
def acc1 (c : Dev nD) : FVec F S1024x512 .f32 :=
  k0_pay27 (tok X c) (keep R c) (acc0 X R W c) (mat W (bwd 0 c) 0) (mat W (bwd 0 c) 1) (mat W (bwd 0 c) 2) (mat W (bwd 0 c) 3)
/-- after three of slot 2, and the product with the fourth, -/
def acc2 (c : Dev nD) : FVec F S1024x512 .f32 :=
  k0_pay28 (tok X c) (keep R c) (acc1 X R W c) (mat W (bwd 1 c) 0) (mat W (bwd 1 c) 1) (mat W (bwd 1 c) 2)
def last2 (c : Dev nD) : FVec F S1024x512 .f32 := k0_pay29 (tok X c) (keep R c) (mat W (bwd 1 c) 3)
/-- after three of slot 3, -/
def acc3 (c : Dev nD) : FVec F S1024x512 .f32 :=
  k0_pay30 (tok X c) (keep R c) (acc2 X R W c) (last2 X R W c) (mat W (bwd 2 c) 0) (mat W (bwd 2 c) 1) (mat W (bwd 2 c) 2)
/-- and the stored result. -/
def res (c : Dev nD) : FVec F S1024x512 .f32 :=
  k0_pay32 (tok X c) (acc3 X R W c) (k0_pay31 (keep R c)) (mat W (bwd 2 c) 3)

end Cert.KernelIdeal.Wire
-- ==== Proof.Protocol.lean ====
/-
# The protocol: who signals whom, and what changes hands

Thirteen semaphore cells per device, each used for one round.

* The barrier cell.  Device `c` signals the devices one, two and three places on, and waits for three units.  The unit
  device `p` sends device `d` hands over the two landing slots on `p` that `d` is going to write: since `d` reaches `p` by
  going on `j + 1` places, these are slots number `j + 1` of `p`'s weight buffer and of `p`'s incoming counts.
* For each shift `k + 1`, a send and a receive cell of the weights, and a send and a receive cell of the counts.  Device
  `c` copies its weights (slot 0) into slot `k + 1` of the device `k + 1` places on, and row `k + 1` of its outgoing counts
  into row `k + 1` of that device's incoming counts.  The receive cell hands the filled slot to its owner; the send cell
  hands the source back.  Slot 0 is the source of three copies and is read meanwhile, so each copy takes a part of the
  share in it and one part stays with the reader.

The receive cells lie above the barrier cells, and these above the others: at the barrier wait a device owes the six copies,
and at every later wait nothing.
-/
module

public import proofs.«01_k».proof.Proof.Contents

@[expose] public section

set_option maxRecDepth 16384

noncomputable section

namespace Cert.KernelIdeal.Wire

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers, slots and cells -/

abbrev xM : Memref sig .tc .vmem S1024x256 .bf16 := Memref.whole cc0_stg0_0
abbrev rM : Memref sig .tc .vmem S1024x1 .i32 := Memref.whole cc0_stg1_0
abbrev eM : Memref sig .tc .vmem S4x256x512 .bf16 := Memref.whole cc0_stg2_0
abbrev oM : Memref sig .tc .vmem S1024x512 .f32 := Memref.whole cc0_stg3_0
abbrev wM : Memref sig .tc .vmem S4x4x256x512 .bf16 := Memref.whole cc0_scratch0
abbrev sM : Memref sig .tc .vmem S4x1x16 .f32 := Memref.whole cc0_scratch1
abbrev tM : Memref sig .tc .vmem S4x1x16 .f32 := Memref.whole cc0_scratch2

set_option backward.proofsInPublic true in
theorem inb_slot (k : Fin 4) : ∀ a, (![k.val, 0, 0, 0] : Fin 4 → ℕ) a + S1x4x256x512.size a ≤ S4x4x256x512.size a := by
  intro a; revert k; revert a; decide
set_option backward.proofsInPublic true in
theorem inb_row (k : Fin 4) : ∀ a, (![k.val, 0, 0] : Fin 3 → ℕ) a + S1x1x16.size a ≤ S4x1x16.size a := by
  intro a; revert k; revert a; decide

/-- Slot `k` of a weight buffer, -/
abbrev slotR (k : Fin 4) : Rect S4x4x256x512 := Rect.unit (s := S4x4x256x512) ![k.val, 0, 0, 0] S1x4x256x512.size (inb_slot k)
/-- row `k` of a counts buffer. -/
abbrev rowR (k : Fin 4) : Rect S4x1x16 := Rect.unit (s := S4x1x16) ![k.val, 0, 0] S1x1x16.size (inb_row k)

abbrev wSlot (k : Fin 4) : Memref sig .tc .vmem S1x4x256x512 .bf16 := wM.slice (slotR k) (fun _ => rfl)
abbrev sRow (k : Fin 4) : Memref sig .tc .vmem S1x1x16 .f32 := sM.slice (rowR k) (fun _ => rfl)
abbrev tRow (k : Fin 4) : Memref sig .tc .vmem S1x1x16 .f32 := tM.slice (rowR k) (fun _ => rfl)

abbrev barS : Sem sig := (SemArray.scalar (sig.barrier 0 rfl) : Sems sig S_).sem
set_option backward.proofsInPublic true in
/-- The copies' semaphores: kind 0 the weights' send, 1 the weights' receive, 2 the counts' send, 3 the counts' receive. -/
abbrev dsem (a : Fin 4) (k : Fin 3) : DmaSem sig := ⟨4 + 3 * a.val + k.val, by change _ < 16; omega⟩

abbrev barCell (c : Dev nD) : GSem nD τ sig := ((c : Thread nD τ), .reg barS)
abbrev xc (c : Dev nD) (k : Fin 3) (a : Fin 4) : GSem nD τ sig := ((c : Thread nD τ), .dma (dsem a k))

/-- The cells of one device. -/
abbrev Ck : Type := Unit ⊕ (Fin 3 × Fin 4)
abbrev csem : Ck → SemLoc sig
  | .inl _ => .reg barS
  | .inr p => .dma (dsem p.2 p.1)
abbrev kcell (ck : Dev nD × Ck) : GSem nD τ sig := ((ck.1 : Thread nD τ), csem ck.2)

set_option backward.proofsInPublic true in
/-- The kind and the shift of a copy's semaphore. -/
def dec (s : DmaSem sig) : Fin 4 × Fin 3 :=
  (⟨(s.val - 4) / 3 % 4, Nat.mod_lt _ (by decide)⟩, ⟨(s.val - 4) % 3, Nat.mod_lt _ (by decide)⟩)

theorem dec_dsem (a : Fin 4) (k : Fin 3) : dec (dsem a k) = (a, k) := by revert a k; decide
theorem dsem_ge (a : Fin 4) (k : Fin 3) : 4 ≤ (dsem a k).val := by revert a k; decide
theorem csem_inj : Function.Injective csem := by decide

/-- The credit of a copy of kind `a` at shift `k`. -/
def amt : Fin 4 → Fin 3 → ℕ
  | 0, k => ((wSlot (up k)).squeeze S4x256x512 squeezes_S1x4x256x512_S4x256x512).view.dmaCredit
  | 1, k => ((wSlot (up k)).squeeze S4x256x512 squeezes_S1x4x256x512_S4x256x512).view.dmaCredit
  | 2, k => ((tRow (up k)).squeeze S1x16 squeezes_S1x1x16_S1x16).view.dmaCredit
  | 3, k => ((tRow (up k)).squeeze S1x16 squeezes_S1x1x16_S1x16).view.dmaCredit

theorem amt_pos (a : Fin 4) (k : Fin 3) : 0 < amt a k := by
  fin_cases a <;> exact View.dmaCredit_pos _ (by decide)

/-- The part of the share in slot 0 that the copy at shift `k` takes; -/
def lent : Fin 3 → PosShare TreeShare
  | 0 => fullShare.left.left
  | 1 => fullShare.left.right
  | 2 => fullShare.right.left
/-- the part that stays with the reader. -/
def kept : PosShare TreeShare := fullShare.right.right

variable (R : Dev nD → Vec F S1024x1 .i32) (W : Dev nD → Vec F S4x256x512 .bf16)

/-! ## The schedule -/

/-- The two landing slots number `k + 1` of device `p`, whatever they contain. -/
def landing (p : Dev nD) (k : Fin 3) : sProp 𝕄 :=
  iprop((∃ Y, owns (p : Thread nD τ) (wSlot (up k)) fullShare Y) ∗ (∃ Y, owns (p : Thread nD τ) (tRow (up k)) fullShare Y))

/-- What a copy's semaphore hands over. -/
def xferPay (c : Dev nD) (k : Fin 3) : Fin 4 → sProp 𝕄
  | 0 => owns (c : Thread nD τ) (wSlot 0) (lent k) (wts W c)
  | 1 => owns (c : Thread nD τ) (wSlot (up k)) fullShare (wts W (bwd k c))
  | 2 => owns (c : Thread nD τ) (sRow (up k)) fullShare (cnt R c k)
  | 3 => owns (c : Thread nD τ) (tRow (up k)) fullShare (cnt R (bwd k c) k)

abbrev IsBar (g : GSem nD τ sig) : Prop := g.1.2 = .tc ∧ g.2 = .reg barS
abbrev IsXfer (g : GSem nD τ sig) : Prop := g.1.2 = .tc ∧ ∃ a k, g.2 = .dma (dsem a k)

/-- One round.  A barrier cell's three duties are one unit each, duty `k` paid by the device whose shift `k + 1` it is;
    a copy's cell has one duty, of the copy's credit. -/
def Rd : Rounds.Schedule (GSem nD τ sig) (Fin 3) 𝕄 where
  duties g r := if r = 0 ∧ IsBar g then Finset.univ else if r = 0 ∧ IsXfer g then {0} else ∅
  unitless _ := False
  amount g _ _ := match g.2 with
    | .reg _ => 1
    | .dma s => amt (dec s).1 (dec s).2
  payload g _ d := match g.2 with
    | .reg _ => landing (fwd d.rev g.1.1) d.rev
    | .dma s => xferPay R W g.1.1 (dec s).2 (dec s).1
  amount_pos g _ _ _ := by
    rcases g with ⟨t, s | s⟩
    · exact Nat.one_pos
    · exact amt_pos _ _

instance landing_storable (p : Dev nD) (k : Fin 3) : BI.Storable (upEmb : UEmb _ 𝕄) (landing (F := F) p k) := by
  unfold landing; infer_instance
instance xferPay_storable (c : Dev nD) (k : Fin 3) (a : Fin 4) : BI.Storable (upEmb : UEmb _ 𝕄) (xferPay (F := F) R W c k a) := by
  fin_cases a <;> (simp only [xferPay]; infer_instance)
instance Rd_storable (g : GSem nD τ sig) (r : ℕ) (d : Fin 3) : BI.Storable (upEmb : UEmb _ 𝕄) ((Rd (F := F) R W).payload g r d) := by
  rcases g with ⟨t, s | s⟩
  · exact landing_storable _ _
  · exact xferPay_storable R W _ _ _

section Sched
variable (c : Dev nD) (k : Fin 3) (a : Fin 4)

theorem duties_bar : (Rd (F := F) R W).duties (barCell c) 0 = Finset.univ := by
  dsimp only [Rd]; exact if_pos ⟨rfl, rfl, rfl⟩
theorem duties_xc : (Rd (F := F) R W).duties (xc c k a) 0 = {0} := by
  dsimp only [Rd]
  rw [if_neg (fun h => by cases h.2.2)]
  exact if_pos ⟨rfl, rfl, a, k, rfl⟩
/-- No duty in a round after the first. -/
theorem duties_later (g : GSem nD τ sig) : ∀ r, 1 ≤ r → (Rd (F := F) R W).duties g r = ∅ := fun r hr => by
  dsimp only [Rd]; rw [if_neg fun h => by omega, if_neg fun h => by omega]
theorem mem_bar : k ∈ (Rd (F := F) R W).duties (barCell c) 0 := by rw [duties_bar]; exact Finset.mem_univ _
theorem mem_xc : (0 : Fin 3) ∈ (Rd (F := F) R W).duties (xc c k a) 0 := by rw [duties_xc]; exact Finset.mem_singleton_self _

theorem amount_bar (d : Fin 3) : (Rd (F := F) R W).amount (barCell c) 0 d = 1 := rfl
theorem amount_xc (d : Fin 3) : (Rd (F := F) R W).amount (xc c k a) 0 d = amt a k := by
  show amt (dec (dsem a k)).1 (dec (dsem a k)).2 = _
  rw [dec_dsem]
theorem expect_bar : (Rd (F := F) R W).expect (barCell c) 0 = 3 := by
  unfold Schedule.expect Schedule.amountOf
  rw [duties_bar, Finset.sum_congr rfl fun d _ => amount_bar R W c d]
  rfl
theorem expect_xc : (Rd (F := F) R W).expect (xc c k a) 0 = amt a k := by
  unfold Schedule.expect Schedule.amountOf
  rw [duties_xc, Finset.sum_singleton, amount_xc]

/-- A device's unit to the device `k + 1` places on hands over its own landing slots. -/
theorem payload_bar : (Rd (F := F) R W).payload (barCell (fwd k c)) 0 k = landing c k.rev := by
  show landing (fwd k.rev (fwd k c)) k.rev = _
  rw [fwd_rev_fwd]
theorem payload_xc (d : Fin 3) : (Rd (F := F) R W).payload (xc c k a) 0 d = xferPay R W c k a := by
  show xferPay R W c (dec (dsem a k)).2 (dec (dsem a k)).1 = _
  rw [dec_dsem]

/-- The barrier wait collects, for each shift, the landing slots on the device that far on. -/
theorem rest_bar : bigSep ((Rd (F := F) R W).duties (barCell c) 0 \ ∅) (fun d => (Rd (F := F) R W).payload (barCell c) 0 d)
    = iprop(landing (fwd 2 c) 2 ∗ landing (fwd 1 c) 1 ∗ landing (fwd 0 c) 0) := by
  rw [Finset.sdiff_empty, duties_bar, bigSep_univ_eq_bigSepL [0, 1, 2] (by decide) (by decide), bigSepL_cons_cons,
    bigSepL_cons_cons, bigSepL_singleton]
  rfl
theorem rest_xc : bigSep ((Rd (F := F) R W).duties (xc c k a) 0 \ ∅) (fun d => (Rd (F := F) R W).payload (xc c k a) 0 d)
    = xferPay R W c k a := by
  rw [Finset.sdiff_empty, duties_xc, bigSep_singleton, payload_xc]

end Sched

/-! ## What each device owes at launch; the levels -/

/-- The two copies at shift `k + 1`, the counts' copy first to go. -/
def owedCopies (c : Dev nD) (k : Fin 3) (O : CellTallies nD τ sig Unit) : CellTallies nD τ sig Unit :=
  O + tallyAt (xc (fwd k c) k 1) () (amt 1 k) + tallyAt (xc (fwd k c) k 3) () (amt 3 k)
/-- The copies from shift one up, from shift two up, and at shift three. -/
def O₃ (c : Dev nD) : CellTallies nD τ sig Unit := owedCopies c 2 0
def O₂ (c : Dev nD) : CellTallies nD τ sig Unit := owedCopies c 1 (O₃ c)
def O₁ (c : Dev nD) : CellTallies nD τ sig Unit := owedCopies c 0 (O₂ c)
/-- All that a device owes: the six copies and the three barrier units. -/
def O₀ (c : Dev nD) : CellTallies nD τ sig Unit :=
  O₁ c + tallyAt (barCell (fwd 2 c)) () 1 + tallyAt (barCell (fwd 1 c)) () 1 + tallyAt (barCell (fwd 0 c)) () 1

def L (g : GSem nD τ sig) : Finset Unit := if g.1.2 = .tc then {()} else ∅
/-- Barrier cells at 1, receive cells at 2, the staging and send cells at 0. -/
def lv (g : GSem nD τ sig) (_ : Unit) : ℕ := match g.2 with
  | .reg _ => 1
  | .dma s => if (dec s).1 = 1 ∨ (dec s).1 = 3 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_xc (c : Dev nD) (k : Fin 3) (a : Fin 4) : lv (xc c k a) () = if a = 1 ∨ a = 3 then 2 else 0 := by
  dsimp only [lv]; rw [dec_dsem]

/-- Everything in `O` is owed to cells of TensorCores at level `n` or more. -/
def Above (n : ℕ) (O : CellTallies nD τ sig Unit) : Prop := ∀ g u, 0 < O g u → u ∈ L g ∧ n ≤ lv g u

theorem above_zero (n : ℕ) : Above n 0 := fun _ _ h => absurd h (Nat.lt_irrefl 0)
theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
theorem above_tallyAt {n N : ℕ} {c : Dev nD} {sm : SemLoc sig} (h : n ≤ lv ((c : Thread nD τ), sm) ()) :
    Above n (tallyAt ((c : Thread nD τ), sm) () N) := by
  intro g u hg
  rw [tallyAt_apply] at hg
  by_cases h' : g = ((c : Thread nD τ), sm) ∧ u = ()
  · rw [h'.1, L_tc]; exact ⟨Finset.mem_singleton_self _, h⟩
  · rw [if_neg h'] at hg; exact absurd hg (Nat.lt_irrefl 0)
theorem above_mono {n n' : ℕ} (hn : n ≤ n') {O : CellTallies nD τ sig Unit} (h : Above n' O) : Above n O :=
  fun g u hg => ⟨(h g u hg).1, hn.trans (h g u hg).2⟩

theorem above_owedCopies (c : Dev nD) (k : Fin 3) {O : CellTallies nD τ sig Unit} (h : Above 2 O) : Above 2 (owedCopies c k O) :=
  above_add (above_add h (above_tallyAt (by rw [lv_xc]; decide))) (above_tallyAt (by rw [lv_xc]; decide))
theorem above_O₁ (c : Dev nD) : Above 2 (O₁ c) :=
  above_owedCopies c 0 (above_owedCopies c 1 (above_owedCopies c 2 (above_zero 2)))
theorem above_O₀ (c : Dev nD) : Above 1 (O₀ c) :=
  above_add (above_add (above_add (above_mono (by decide) (above_O₁ c)) (above_tallyAt le_rfl)) (above_tallyAt le_rfl)) (above_tallyAt le_rfl)

/-- A wait at a level below everything owed is allowed. -/
theorem mayWait_above (c : Dev nD) (sm : SemLoc sig) {n : ℕ} (hn : lv ((c : Thread nD τ), sm) () < n)
    {O : CellTallies nD τ sig Unit} (h : Above n O) : (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => (h g u hg).1)
    (fun p hp => by rw [Finset.mem_singleton.mp hp])
    (fun g u hg => hn.trans_le (h g u hg).2)

/-! ## What a device's body starts from -/

variable (K : Dev nD × Ck → ℕ)

/-- The invariants of all cells of all devices and the marks that they have reached their round. -/
def records : sProp 𝕄 :=
  iprop((bigSep Finset.univ fun ck : Dev nD × Ck => cellInv ER (Rd R W) (K ck) (kcell ck))
    ∗ bigSep Finset.univ fun ck : Dev nD × Ck => reached ER (kcell ck) 0)

instance records_persistent : BI.Persistent (records (F := F) R W K) := by unfold records; infer_instance

theorem records_inv (ck : Dev nD × Ck) : records (F := F) R W K ⊢ cellInv ER (Rd R W) (K ck) (kcell ck) := by
  have h : (bigSep Finset.univ fun ck : Dev nD × Ck => cellInv ER (Rd (F := F) R W) (K ck) (kcell ck))
      ⊢ cellInv ER (Rd R W) (K ck) (kcell ck) := bigSep_elim (Finset.mem_univ ck)
  unfold records
  iintro ⟨H, -⟩
  iapply h
  iexact H
theorem records_reached (ck : Dev nD × Ck) : records (F := F) R W K ⊢ reached ER (kcell ck) 0 := by
  have h : (bigSep Finset.univ fun ck : Dev nD × Ck => reached (ER (F := F)) (kcell ck) 0)
      ⊢ reached ER (kcell ck) 0 := bigSep_elim (Finset.mem_univ ck)
  unfold records
  iintro ⟨-, H⟩
  iapply h
  iexact H

/-- The duty tokens device `c` pays with at shift `k + 1`. -/
def payToks (c : Dev nD) (k : Fin 3) : sProp 𝕄 :=
  iprop(dutyTok ER (barCell (fwd k c)) 0 k ∗ dutyTok ER (xc (fwd k c) k 1) 0 0 ∗ dutyTok ER (xc (fwd k c) k 3) 0 0
    ∗ dutyTok ER (xc c k 0) 0 0 ∗ dutyTok ER (xc c k 2) 0 0)
/-- Device `c`'s places in its cells of shift `k + 1`. -/
def places (c : Dev nD) (k : Fin 3) : sProp 𝕄 :=
  iprop(atPos ER (xc c k 0) 0 ∅ 0 ∗ atPos ER (xc c k 1) 0 ∅ 0 ∗ atPos ER (xc c k 2) 0 ∅ 0 ∗ atPos ER (xc c k 3) 0 ∅ 0)
/-- The credit the copies into device `c` at shift `k + 1` bring. -/
def credits (c : Dev nD) (k : Fin 3) : sProp 𝕄 :=
  iprop(cred (tallyAt (xc c k 1) () (amt 1 k)) ∗ cred (tallyAt (xc c k 3) () (amt 3 k)))

def ghost (c : Dev nD) : sProp 𝕄 :=
  iprop(records R W K ∗ atPos ER (barCell c) 0 ∅ 0 ∗ (places c 0 ∗ places c 1 ∗ places c 2)
    ∗ payToks c 0 ∗ payToks c 1 ∗ payToks c 2)

def start (c : Dev nD) : sProp 𝕄 :=
  iprop((∃ K, ghost R W K c) ∗ cred (tallyAt (barCell c) () 3) ∗ (credits c 0 ∗ credits c 1 ∗ credits c 2) ∗ levAts L lv)

end Cert.KernelIdeal.Wire
-- ==== Proof.Steps.lean ====
/-
# One rule per effect of the kernel

The signals, the copies and the waits of the protocol as single steps of a device's program, each stated for any shift: what
the step needs, and what it leaves.  A wait also closes its cell, since every cell is used once.
-/
module

public import proofs.«01_k».proof.Proof.Protocol

@[expose] public section

set_option maxRecDepth 16384

noncomputable section

namespace Cert.KernelIdeal.Wire

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `c` owes `O`, whatever it has waited on. -/
def owing (c : Dev nD) (O : CellTallies nD τ sig Unit) : sProp 𝕄 := iprop(∃ Wt, owes (c : Thread nD τ) O Wt)

variable (R : Dev nD → Vec F S1024x1 .i32) (W : Dev nD → Vec F S4x256x512 .bf16) (K : Dev nD × Ck → ℕ)
variable (c : Dev nD)

/-- The signal to the device `j + 1` places on hands over this device's landing slots for it. -/
theorem wp_signal_on (j : Fin 3) (n : Dev nD) (hn : n = fwd j c) (O : CellTallies nD τ sig Unit)
    {α : Type} {Q : α → sProp 𝕄} {k : PUnit → Prog (TpuEff nD τ sig (Elt F) Λ₀ .tc) α} :
    iprop(records R W K ∗ owing (F := F) c (O + tallyAt (barCell (fwd j c)) () 1) ∗ dutyTok ER (barCell (fwd j c)) 0 j ∗ landing c j.rev)
      ⊢ iprop((owing (F := F) c O -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n, .tc) barS (1#32 : BitVec 32).toInt) k) Q) := by
  subst hn
  iintro ⟨#HR, HO, HT, HL⟩ Hk
  unfold owing
  icases HO with ⟨%Wt, HO⟩
  ihave #HI := (records_inv R W K (fwd j c, .inl ())) $$ HR
  ihave #Hr := (records_reached R W K (fwd j c, .inl ())) $$ HR
  iapply (Rounds.wp_signal 𝒱₀ ER (Rd R W) (c : Thread nD τ) none (dst := (fwd j c : Thread nD τ)) (κ := K (fwd j c, .inl ()))
      (d := j) (mem_bar R W (fwd j c) j) ((amount_bar R W (fwd j c) j).trans (by decide)) () O rfl) $$ [HO HT HL]
  · rw [payload_bar]
    iframe HI HO HT HL Hr
  iintro HO
  iapply Hk
  iexists Wt
  iexact HO

/-- The barrier wait brings the landing slots on the three other devices. -/
theorem wp_wait_bar {α : Type} {Q : α → sProp 𝕄} {k : PUnit → Prog (TpuEff nD τ sig (Elt F) Λ₀ .tc) α} :
    iprop(records R W K ∗ levAts L lv ∗ cred (tallyAt (barCell c) () 3) ∗ owing (F := F) c (O₁ c) ∗ atPos ER (barCell c) 0 ∅ 0)
      ⊢ iprop(((owing (F := F) c (O₁ c) ∗ semVal (barCell c) 0 ∗ landing (fwd 2 c) 2 ∗ landing (fwd 1 c) 1 ∗ landing (fwd 0 c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32 : BitVec 32).toInt) k) Q) := by
  iintro ⟨#HR, #HL, HC, HO, HA⟩ Hk
  unfold owing
  icases HO with ⟨%Wt, HO⟩
  ihave #HI := (records_inv R W K (c, .inl ())) $$ HR
  iapply (Rounds.wp_wait_rest_token 𝒱₀ ER (Rd R W) (c : Thread nD τ) none (κ := K (c, .inl ()))
      (wpE_semWait_eq 𝒱₀ (c : Thread nD τ) none Set.univ) (Set.mem_univ _) () (O := O₁ c) (W := Wt) (R := 0) (m := 0) (T := ∅)
      (by rw [expect_bar]; decide)) $$ [HC HO HA]
  · isplitr; · iexact HI
    isplitl [HC]; · iexact HC
    isplitl [HO]; · iexact HO
    isplitr; · iapply (mayWait_above c (.reg barS) (n := 2) (by show 1 < 2; decide) (above_O₁ c)); iexact HL
    iexact HA
  iintro ⟨HO, HA, -, HP⟩
  ihave HP := (Entails.of_eq (rest_bar R W c)) $$ HP
  imod (Rounds.cell_close ER (Rd R W) (Set.mem_univ (K (c, .inl ()))) (fun h => h) (R := 0 + 1) (duties_later R W (barCell c))) $$ [HA] with HZ
  · iframe HI HA
  iapply Hk
  isplitl [HO]
  · iexists _; iexact HO
  iframe HZ HP

/-- A wait on a copy's semaphore, once nothing is owed: what the copy hands over, and the semaphore back at zero. -/
theorem wp_wait_copy (j : Fin 3) (a : Fin 4) {w : TpuEff nD τ sig (Elt F) Λ₀ (c : Thread nD τ).2 PUnit}
    (hw : ∀ P : PUnit → sProp 𝕄, wpE' (defs₀ (F := F)) 𝒱₀ (c : Thread nD τ) none .empty Set.univ w P
      = waitSpec (c : Thread nD τ) Set.univ (.dma (dsem a j)) (amt a j) P)
    {α : Type} {Q : α → sProp 𝕄} {k : PUnit → Prog (TpuEff nD τ sig (Elt F) Λ₀ .tc) α} :
    iprop(records R W K ∗ cred (tallyAt (xc c j a) () (amt a j)) ∗ owing (F := F) c 0 ∗ atPos ER (xc c j a) 0 ∅ 0)
      ⊢ iprop(((owing (F := F) c 0 ∗ semVal (xc c j a) 0 ∗ xferPay R W c j a)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HR, HC, HO, HA⟩ Hk
  unfold owing
  icases HO with ⟨%Wt, HO⟩
  ihave #HI := (records_inv R W K (c, .inr (j, a))) $$ HR
  iapply (Rounds.wp_wait_rest_token 𝒱₀ ER (Rd R W) (c : Thread nD τ) none (κ := K (c, .inr (j, a)))
      hw (Set.mem_univ _) () (O := 0) (W := Wt) (R := 0) (m := 0) (T := ∅)
      (by rw [expect_xc, Nat.zero_add])) $$ [HC HO HA]
  · isplitr; · iexact HI
    isplitl [HC]; · iexact HC
    isplitl [HO]; · iexact HO
    isplitr; · rw [MayWait_zero]; iempintro
    iexact HA
  iintro ⟨HO, HA, -, HP⟩
  ihave HP := (Entails.of_eq (rest_xc R W c j a)) $$ HP
  imod (Rounds.cell_close ER (Rd R W) (Set.mem_univ (K (c, .inr (j, a)))) (fun h => h) (R := 0 + 1) (duties_later R W (xc c j a))) $$ [HA] with HZ
  · iframe HI HA
  iapply Hk
  isplitl [HO]
  · iexists _; iexact HO
  iframe HZ HP

/-- The copy of the weights at shift `j + 1`. -/
theorem wp_send_wts (j : Fin 3) (n : Dev nD) (hn : n = fwd j c) (O : CellTallies nD τ sig Unit)
    {hsc : ((wSlot (up j)).squeeze S4x256x512 squeezes_S1x4x256x512_S4x256x512 : Memref sig (Dev.tc n : Thread nD τ).2.kind .vmem S4x256x512 .bf16).view.ref.isScScratch = false}
    {hsrc : ((wSlot 0).squeeze S4x256x512 squeezes_S1x4x256x512_S4x256x512).view.WordExact}
    {hdst : ((wSlot (up j)).squeeze S4x256x512 squeezes_S1x4x256x512_S4x256x512).view.WordExact}
    {hsem : DmaTarget.Typed .vmem (.dma (dsem 1 j)) (.remote (Dev.tc n : Thread nD τ) ((wSlot (up j)).squeeze S4x256x512 squeezes_S1x4x256x512_S4x256x512) (.dma (dsem 0 j)) hsc)}
    {α : Type} {Q : α → sProp 𝕄} {k : PUnit → Prog (TpuEff nD τ sig (Elt F) Λ₀ .tc) α} :
    iprop(records R W K ∗ owns (c : Thread nD τ) (wSlot 0) (lent j) (wts W c) ∗ (∃ Y, owns (fwd j c : Thread nD τ) (wSlot (up j)) fullShare Y)
        ∗ owing (F := F) c (O + tallyAt (xc (fwd j c) j 1) () (amt 1 j))
        ∗ dutyTok ER (xc c j 0) 0 0 ∗ dutyTok ER (xc (fwd j c) j 1) 0 0)
      ⊢ iprop(((cred (tallyAt (xc c j 0) () (amt 0 j)) ∗ owing (F := F) c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((wSlot 0).squeeze S4x256x512 squeezes_S1x4x256x512_S4x256x512)
                (.remote (Dev.tc n : Thread nD τ) ((wSlot (up j)).squeeze S4x256x512 squeezes_S1x4x256x512_S4x256x512) (.dma (dsem 0 j)) hsc)
                (.dma (dsem 1 j)) hsrc hdst hsem) k) Q) := by
  iintro ⟨#HR, HX, HY, HO, HT, HT'⟩ Hk
  unfold owing
  icases HO with ⟨%Wt, HO⟩
  ihave #HI := (records_inv R W K (c, .inr (j, 0))) $$ HR
  ihave #Hr := (records_reached R W K (c, .inr (j, 0))) $$ HR
  ihave #HI' := (records_inv R W K (fwd j c, .inr (j, 1))) $$ HR
  ihave #Hr' := (records_reached R W K (fwd j c, .inr (j, 1))) $$ HR
  iapply (wp_send_slot c ER (Rd R W) (fwd j c) n hn (wSlot 0) (wSlot (up j)) squeezes_S1x4x256x512_S4x256x512 squeezes_S1x4x256x512_S4x256x512
      (.dma (dsem 0 j)) (.dma (dsem 1 j)) (lent j) (wts W c) (amt 1 j) rfl (mem_xc R W c j 0) (mem_xc R W (fwd j c) j 1)
      (amount_xc R W c j 0 0) (amount_xc R W (fwd j c) j 1 0)
      (by rw [payload_xc, xferPay]) (by rw [payload_xc, xferPay, bwd_fwd]) (K (c, .inr (j, 0))) (K (fwd j c, .inr (j, 1))) O Wt)
    $$ [HX HY HO HT HT']
  · iframe HI HI' HX HY HO HT Hr HT' Hr'
  iintro ⟨HC, HO⟩
  iapply Hk
  isplitl [HC]; · iexact HC
  iexists Wt; iexact HO

/-- The copy of the counts at shift `j + 1`. -/
theorem wp_send_cnt (j : Fin 3) (n : Dev nD) (hn : n = fwd j c) (O : CellTallies nD τ sig Unit)
    {hsc : ((tRow (up j)).squeeze S1x16 squeezes_S1x1x16_S1x16 : Memref sig (Dev.tc n : Thread nD τ).2.kind .vmem S1x16 .f32).view.ref.isScScratch = false}
    {hsrc : ((sRow (up j)).squeeze S1x16 squeezes_S1x1x16_S1x16).view.WordExact}
    {hdst : ((tRow (up j)).squeeze S1x16 squeezes_S1x1x16_S1x16).view.WordExact}
    {hsem : DmaTarget.Typed .vmem (.dma (dsem 3 j)) (.remote (Dev.tc n : Thread nD τ) ((tRow (up j)).squeeze S1x16 squeezes_S1x1x16_S1x16) (.dma (dsem 2 j)) hsc)}
    {α : Type} {Q : α → sProp 𝕄} {k : PUnit → Prog (TpuEff nD τ sig (Elt F) Λ₀ .tc) α} :
    iprop(records R W K ∗ owns (c : Thread nD τ) (sRow (up j)) fullShare (cnt R c j) ∗ (∃ Y, owns (fwd j c : Thread nD τ) (tRow (up j)) fullShare Y)
        ∗ owing (F := F) c (O + tallyAt (xc (fwd j c) j 3) () (amt 3 j))
        ∗ dutyTok ER (xc c j 2) 0 0 ∗ dutyTok ER (xc (fwd j c) j 3) 0 0)
      ⊢ iprop(((cred (tallyAt (xc c j 2) () (amt 2 j)) ∗ owing (F := F) c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((sRow (up j)).squeeze S1x16 squeezes_S1x1x16_S1x16)
                (.remote (Dev.tc n : Thread nD τ) ((tRow (up j)).squeeze S1x16 squeezes_S1x1x16_S1x16) (.dma (dsem 2 j)) hsc)
                (.dma (dsem 3 j)) hsrc hdst hsem) k) Q) := by
  iintro ⟨#HR, HX, HY, HO, HT, HT'⟩ Hk
  unfold owing
  icases HO with ⟨%Wt, HO⟩
  ihave #HI := (records_inv R W K (c, .inr (j, 2))) $$ HR
  ihave #Hr := (records_reached R W K (c, .inr (j, 2))) $$ HR
  ihave #HI' := (records_inv R W K (fwd j c, .inr (j, 3))) $$ HR
  ihave #Hr' := (records_reached R W K (fwd j c, .inr (j, 3))) $$ HR
  iapply (wp_send_slot c ER (Rd R W) (fwd j c) n hn (sRow (up j)) (tRow (up j)) squeezes_S1x1x16_S1x16 squeezes_S1x1x16_S1x16
      (.dma (dsem 2 j)) (.dma (dsem 3 j)) fullShare (cnt R c j) (amt 3 j) rfl (mem_xc R W c j 2) (mem_xc R W (fwd j c) j 3)
      (amount_xc R W c j 2 0) (amount_xc R W (fwd j c) j 3 0)
      (by rw [payload_xc, xferPay]) (by rw [payload_xc, xferPay, bwd_fwd]) (K (c, .inr (j, 2))) (K (fwd j c, .inr (j, 3))) O Wt)
    $$ [HX HY HO HT HT']
  · iframe HI HI' HX HY HO HT Hr HT' Hr'
  iintro ⟨HC, HO⟩
  iapply Hk
  isplitl [HC]; · iexact HC
  iexists Wt; iexact HO

end Cert.KernelIdeal.Wire
-- ==== Proof.Parts.lean ====
/-
# The kernel's parts up to the last copy sent

The printed kernel body is cut into parts.  For each part, what it needs, what it leaves, and the values it passes on.  This
module has the parts that fill the outgoing buffers, meet at the barrier and send the copies, and the common steps on the
staged blocks.
-/
module

public import proofs.«01_k».proof.Proof.Steps

@[expose] public section

set_option maxRecDepth 16384

noncomputable section

namespace Cert.KernelIdeal.Wire

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The parts at this launch's buffers -/

abbrev part1 := k0_part1 (F := F) xM (Memref.isWhole_whole _) rM (Memref.isWhole_whole _) eM (Memref.isWhole_whole _) oM (Memref.isWhole_whole _)
  wM (Memref.isWhole_whole _) sM (Memref.isWhole_whole _) tM (Memref.isWhole_whole _) cc0_scratch3 cc0_scratch4 cc0_scratch5 cc0_scratch6
abbrev part2 := k0_part2 (F := F) xM (Memref.isWhole_whole _) rM (Memref.isWhole_whole _) eM (Memref.isWhole_whole _) oM (Memref.isWhole_whole _)
  wM (Memref.isWhole_whole _) sM (Memref.isWhole_whole _) tM (Memref.isWhole_whole _) cc0_scratch3 cc0_scratch4 cc0_scratch5 cc0_scratch6
abbrev part3 := k0_part3 (F := F) xM (Memref.isWhole_whole _) rM (Memref.isWhole_whole _) eM (Memref.isWhole_whole _) oM (Memref.isWhole_whole _)
  wM (Memref.isWhole_whole _) sM (Memref.isWhole_whole _) tM (Memref.isWhole_whole _) cc0_scratch3 cc0_scratch4 cc0_scratch5 cc0_scratch6
abbrev part4 := k0_part4 (F := F) xM (Memref.isWhole_whole _) rM (Memref.isWhole_whole _) eM (Memref.isWhole_whole _) oM (Memref.isWhole_whole _)
  wM (Memref.isWhole_whole _) sM (Memref.isWhole_whole _) tM (Memref.isWhole_whole _) cc0_scratch3 cc0_scratch4 cc0_scratch5 cc0_scratch6
abbrev part5 := k0_part5 (F := F) xM (Memref.isWhole_whole _) rM (Memref.isWhole_whole _) eM (Memref.isWhole_whole _) oM (Memref.isWhole_whole _)
  wM (Memref.isWhole_whole _) sM (Memref.isWhole_whole _) tM (Memref.isWhole_whole _) cc0_scratch3 cc0_scratch4 cc0_scratch5 cc0_scratch6
abbrev part6 := k0_part6 (F := F) xM (Memref.isWhole_whole _) rM (Memref.isWhole_whole _) eM (Memref.isWhole_whole _) oM (Memref.isWhole_whole _)
  wM (Memref.isWhole_whole _) sM (Memref.isWhole_whole _) tM (Memref.isWhole_whole _) cc0_scratch3 cc0_scratch4 cc0_scratch5 cc0_scratch6
abbrev part7 := k0_part7 (F := F) xM (Memref.isWhole_whole _) rM (Memref.isWhole_whole _) eM (Memref.isWhole_whole _) oM (Memref.isWhole_whole _)
  wM (Memref.isWhole_whole _) sM (Memref.isWhole_whole _) tM (Memref.isWhole_whole _) cc0_scratch3 cc0_scratch4 cc0_scratch5 cc0_scratch6
abbrev part8 := k0_part8 (F := F) xM (Memref.isWhole_whole _) rM (Memref.isWhole_whole _) eM (Memref.isWhole_whole _) oM (Memref.isWhole_whole _)
  wM (Memref.isWhole_whole _) sM (Memref.isWhole_whole _) tM (Memref.isWhole_whole _) cc0_scratch3 cc0_scratch4 cc0_scratch5 cc0_scratch6
abbrev part9 := k0_part9 (F := F) xM (Memref.isWhole_whole _) rM (Memref.isWhole_whole _) eM (Memref.isWhole_whole _) oM (Memref.isWhole_whole _)
  wM (Memref.isWhole_whole _) sM (Memref.isWhole_whole _) tM (Memref.isWhole_whole _) cc0_scratch3 cc0_scratch4 cc0_scratch5 cc0_scratch6
abbrev part10 := k0_part10 (F := F) xM (Memref.isWhole_whole _) rM (Memref.isWhole_whole _) eM (Memref.isWhole_whole _) oM (Memref.isWhole_whole _)
  wM (Memref.isWhole_whole _) sM (Memref.isWhole_whole _) tM (Memref.isWhole_whole _) cc0_scratch3 cc0_scratch4 cc0_scratch5 cc0_scratch6
abbrev part11 := k0_part11 (F := F) xM (Memref.isWhole_whole _) rM (Memref.isWhole_whole _) eM (Memref.isWhole_whole _) oM (Memref.isWhole_whole _)
  wM (Memref.isWhole_whole _) sM (Memref.isWhole_whole _) tM (Memref.isWhole_whole _) cc0_scratch3 cc0_scratch4 cc0_scratch5 cc0_scratch6
abbrev part12 := k0_part12 (F := F) xM (Memref.isWhole_whole _) rM (Memref.isWhole_whole _) eM (Memref.isWhole_whole _) oM (Memref.isWhole_whole _)
  wM (Memref.isWhole_whole _) sM (Memref.isWhole_whole _) tM (Memref.isWhole_whole _) cc0_scratch3 cc0_scratch4 cc0_scratch5 cc0_scratch6
abbrev part13 := k0_part13 (F := F) xM (Memref.isWhole_whole _) rM (Memref.isWhole_whole _) eM (Memref.isWhole_whole _) oM (Memref.isWhole_whole _)
  wM (Memref.isWhole_whole _) sM (Memref.isWhole_whole _) tM (Memref.isWhole_whole _) cc0_scratch3 cc0_scratch4 cc0_scratch5 cc0_scratch6
abbrev part14 := k0_part14 (F := F) xM (Memref.isWhole_whole _) rM (Memref.isWhole_whole _) eM (Memref.isWhole_whole _) oM (Memref.isWhole_whole _)
  wM (Memref.isWhole_whole _) sM (Memref.isWhole_whole _) tM (Memref.isWhole_whole _) cc0_scratch3 cc0_scratch4 cc0_scratch5 cc0_scratch6
abbrev part15 := k0_part15 (F := F) xM (Memref.isWhole_whole _) rM (Memref.isWhole_whole _) eM (Memref.isWhole_whole _) oM (Memref.isWhole_whole _)
  wM (Memref.isWhole_whole _) sM (Memref.isWhole_whole _) tM (Memref.isWhole_whole _) cc0_scratch3 cc0_scratch4 cc0_scratch5 cc0_scratch6
abbrev part16 := k0_part16 (F := F) xM (Memref.isWhole_whole _) rM (Memref.isWhole_whole _) eM (Memref.isWhole_whole _) oM (Memref.isWhole_whole _)
  wM (Memref.isWhole_whole _) sM (Memref.isWhole_whole _) tM (Memref.isWhole_whole _) cc0_scratch3 cc0_scratch4 cc0_scratch5 cc0_scratch6
abbrev part17 := k0_part17 (F := F) xM (Memref.isWhole_whole _) rM (Memref.isWhole_whole _) eM (Memref.isWhole_whole _) oM (Memref.isWhole_whole _)
  wM (Memref.isWhole_whole _) sM (Memref.isWhole_whole _) tM (Memref.isWhole_whole _) cc0_scratch3 cc0_scratch4 cc0_scratch5 cc0_scratch6

/-! ## Staged blocks, matrices and rows -/

/-- Device `c` holds its whole buffer `b`, containing `V`. -/
def held (c : Dev nD) (b : Ref sig .tc) (V : b.ty.Contents (Elt F)) : sProp 𝕄 := ((c : Thread nD τ).loc b) ↦{fullShare} V

theorem zero2 : (![0, 0] : Fin 2 → ℕ) = fun _ => 0 := by funext a; fin_cases a <;> rfl
theorem zero3 : (![0, 0, 0] : Fin 3 → ℕ) = fun _ => 0 := by funext a; fin_cases a <;> rfl

section Loads
variable {α : Type} (c : Dev nD)

theorem wp_load_x (V : Vec F S1024x256 .bf16) {hl : xM.view.LoadsAt (Rect.unit (s := S1024x256) ![0, 0] S1024x256.size inb_S1024x256_S1024x256_0_0).toLoadRect}
    {k : Vec F S1024x256 .bf16 → Prog (TpuEff nD τ sig (Elt F) Λ₀ .tc) α} {Q : α → sProp 𝕄} :
    held c cc0_stg0_0 V
      ⊢ iprop((held c cc0_stg0_0 V -∗ wp frame (wpE (defs₀ (F := F)) 𝒱₀ (c : Thread nD τ) none) Set.univ (k V) Q)
          -∗ wp frame (wpE (defs₀ (F := F)) 𝒱₀ (c : Thread nD τ) none) Set.univ (.op (.load xM (Rect.unit (s := S1024x256) ![0, 0] S1024x256.size inb_S1024x256_S1024x256_0_0).toLoadRect hl) k) Q) := by
  have h := wp_load 𝒱₀ (c : Thread nD τ) none Set.univ (Γ := .empty) (defs := defs₀ (F := F)) (Q := Q) (m := xM) (hl := hl) (k := k)
    (S := Finset.univ) (q := fullShare) (f := V) (Finset.subset_univ _)
  have e : xM.view.readAt (Elt F) (Rect.unit (s := S1024x256) ![0, 0] S1024x256.size inb_S1024x256_S1024x256_0_0).toLoadRect V = V :=
    Memref.readAt_unit_zero (Elt F) cc0_stg0_0 zero2 _ V
  rw [e] at h
  exact h

theorem wp_load_r (V : Vec F S1024x1 .i32) {hl : rM.view.LoadsAt (Rect.unit (s := S1024x1) ![0, 0] S1024x1.size inb_S1024x1_S1024x1_0_0).toLoadRect}
    {k : Vec F S1024x1 .i32 → Prog (TpuEff nD τ sig (Elt F) Λ₀ .tc) α} {Q : α → sProp 𝕄} :
    held c cc0_stg1_0 V
      ⊢ iprop((held c cc0_stg1_0 V -∗ wp frame (wpE (defs₀ (F := F)) 𝒱₀ (c : Thread nD τ) none) Set.univ (k V) Q)
          -∗ wp frame (wpE (defs₀ (F := F)) 𝒱₀ (c : Thread nD τ) none) Set.univ (.op (.load rM (Rect.unit (s := S1024x1) ![0, 0] S1024x1.size inb_S1024x1_S1024x1_0_0).toLoadRect hl) k) Q) := by
  have h := wp_load 𝒱₀ (c : Thread nD τ) none Set.univ (Γ := .empty) (defs := defs₀ (F := F)) (Q := Q) (m := rM) (hl := hl) (k := k)
    (S := Finset.univ) (q := fullShare) (f := V) (Finset.subset_univ _)
  have e : rM.view.readAt (Elt F) (Rect.unit (s := S1024x1) ![0, 0] S1024x1.size inb_S1024x1_S1024x1_0_0).toLoadRect V = V :=
    Memref.readAt_unit_zero (Elt F) cc0_stg1_0 zero2 _ V
  rw [e] at h
  exact h

theorem wp_load_e (V : Vec F S4x256x512 .bf16) {hl : eM.view.LoadsAt (Rect.unit (s := S4x256x512) ![0, 0, 0] S4x256x512.size inb_S4x256x512_S4x256x512_0_0_0).toLoadRect}
    {k : Vec F S4x256x512 .bf16 → Prog (TpuEff nD τ sig (Elt F) Λ₀ .tc) α} {Q : α → sProp 𝕄} :
    held c cc0_stg2_0 V
      ⊢ iprop((held c cc0_stg2_0 V -∗ wp frame (wpE (defs₀ (F := F)) 𝒱₀ (c : Thread nD τ) none) Set.univ (k V) Q)
          -∗ wp frame (wpE (defs₀ (F := F)) 𝒱₀ (c : Thread nD τ) none) Set.univ (.op (.load eM (Rect.unit (s := S4x256x512) ![0, 0, 0] S4x256x512.size inb_S4x256x512_S4x256x512_0_0_0).toLoadRect hl) k) Q) := by
  have h := wp_load 𝒱₀ (c : Thread nD τ) none Set.univ (Γ := .empty) (defs := defs₀ (F := F)) (Q := Q) (m := eM) (hl := hl) (k := k)
    (S := Finset.univ) (q := fullShare) (f := V) (Finset.subset_univ _)
  have e : eM.view.readAt (Elt F) (Rect.unit (s := S4x256x512) ![0, 0, 0] S4x256x512.size inb_S4x256x512_S4x256x512_0_0_0).toLoadRect V = V :=
    Memref.readAt_unit_zero (Elt F) cc0_stg2_0 zero3 _ V
  rw [e] at h
  exact h

theorem wp_load_o (V : Vec F S1024x512 .f32) {hl : oM.view.LoadsAt (Rect.unit (s := S1024x512) ![0, 0] S1024x512.size inb_S1024x512_S1024x512_0_0).toLoadRect}
    {k : Vec F S1024x512 .f32 → Prog (TpuEff nD τ sig (Elt F) Λ₀ .tc) α} {Q : α → sProp 𝕄} :
    held c cc0_stg3_0 V
      ⊢ iprop((held c cc0_stg3_0 V -∗ wp frame (wpE (defs₀ (F := F)) 𝒱₀ (c : Thread nD τ) none) Set.univ (k V) Q)
          -∗ wp frame (wpE (defs₀ (F := F)) 𝒱₀ (c : Thread nD τ) none) Set.univ (.op (.load oM (Rect.unit (s := S1024x512) ![0, 0] S1024x512.size inb_S1024x512_S1024x512_0_0).toLoadRect hl) k) Q) := by
  have h := wp_load 𝒱₀ (c : Thread nD τ) none Set.univ (Γ := .empty) (defs := defs₀ (F := F)) (Q := Q) (m := oM) (hl := hl) (k := k)
    (S := Finset.univ) (q := fullShare) (f := V) (Finset.subset_univ _)
  have e : oM.view.readAt (Elt F) (Rect.unit (s := S1024x512) ![0, 0] S1024x512.size inb_S1024x512_S1024x512_0_0).toLoadRect V = V :=
    Memref.readAt_unit_zero (Elt F) cc0_stg3_0 zero2 _ V
  rw [e] at h
  exact h

theorem wp_store_o (V w : Vec F S1024x512 .f32)
    {hx : (oM.access (Rect.unit (s := S1024x512) ![0, 0] S1024x512.size inb_S1024x512_S1024x512_0_0)).Stores Finset.univ}
    {hm : (Finset.univ : Finset S1024x512.Idx) = Finset.univ ∨ ∀ a, (Rect.unit (s := S1024x512) ![0, 0] S1024x512.size inb_S1024x512_S1024x512_0_0).stride a = 1}
    {k : PUnit → Prog (TpuEff nD τ sig (Elt F) Λ₀ .tc) α} {Q : α → sProp 𝕄} :
    held c cc0_stg3_0 V
      ⊢ iprop((held c cc0_stg3_0 w -∗ wp frame (wpE (defs₀ (F := F)) 𝒱₀ (c : Thread nD τ) none) Set.univ (k ⟨⟩) Q)
          -∗ wp frame (wpE (defs₀ (F := F)) 𝒱₀ (c : Thread nD τ) none) Set.univ (.op (.store oM (Rect.unit (s := S1024x512) ![0, 0] S1024x512.size inb_S1024x512_S1024x512_0_0) w Finset.univ hx hm) k) Q) := by
  have h := wp_store 𝒱₀ (c : Thread nD τ) none Set.univ (Γ := .empty) (defs := defs₀ (F := F)) (Q := Q) (m := oM)
    (r := Rect.unit (s := S1024x512) ![0, 0] S1024x512.size inb_S1024x512_S1024x512_0_0) (w := w) (hx := hx) (hm := hm) (k := k)
    (S := Finset.univ) (f := V) (Finset.subset_univ _)
  have e : (oM.access (Rect.unit (s := S1024x512) ![0, 0] S1024x512.size inb_S1024x512_S1024x512_0_0)).write (Elt F) V w Finset.univ = w :=
    Memref.write_access_unit_zero_univ (Elt F) cc0_stg3_0 zero2 _ V w
  rw [e] at h
  exact h

set_option backward.proofsInPublic true in
/-- Matrix `j` of slot `s`, as a rectangle of the whole weight buffer, is where it is in the slot. -/
theorem emb_mat (s j : Fin 4) (inb : ∀ a, (![s.val, j.val, 0, 0] : Fin 4 → ℕ) a + S1x1x256x512.size a ≤ S4x4x256x512.size a)
    (i : S1x1x256x512.Idx) :
    (Rect.unit (s := S4x4x256x512) ![s.val, j.val, 0, 0] S1x1x256x512.size inb).emb i = (slotR s).emb (inSlot j i) := by
  funext a
  have h1 : (i 1).val < 1 := (i 1).isLt
  apply Fin.ext
  fin_cases a
  · rfl
  · show j.val + 1 * (i 1).val = 0 + 1 * j.val
    omega
  · rfl
  · rfl

/-- A load of matrix `j` of a slot that holds device `d`'s matrices reads device `d`'s matrix `j`. -/
theorem wp_load_mat (W : Dev nD → Vec F S4x256x512 .bf16) (d : Dev nD) (s j : Fin 4) (q : PosShare TreeShare)
    {inb : ∀ a, (![s.val, j.val, 0, 0] : Fin 4 → ℕ) a + S1x1x256x512.size a ≤ S4x4x256x512.size a}
    {hl : wM.view.LoadsAt (Rect.unit (s := S4x4x256x512) ![s.val, j.val, 0, 0] S1x1x256x512.size inb).toLoadRect}
    {k : Vec F S1x1x256x512 .bf16 → Prog (TpuEff nD τ sig (Elt F) Λ₀ .tc) α} {Q : α → sProp 𝕄} :
    (owns (c : Thread nD τ) (wSlot s) q (wts W d) : sProp 𝕄)
      ⊢ iprop((owns (c : Thread nD τ) (wSlot s) q (wts W d) -∗ wp frame (wpE (defs₀ (F := F)) 𝒱₀ (c : Thread nD τ) none) Set.univ (k (mat W d j)) Q)
          -∗ wp frame (wpE (defs₀ (F := F)) 𝒱₀ (c : Thread nD τ) none) Set.univ (.op (.load wM (Rect.unit (s := S4x4x256x512) ![s.val, j.val, 0, 0] S1x1x256x512.size inb).toLoadRect hl) k) Q) :=
  wp_load_part c wM (slotR s) (fun _ => rfl) q (wts W d)
    (Rect.unit (s := S4x4x256x512) ![s.val, j.val, 0, 0] S1x1x256x512.size inb) (inSlot j) (emb_mat s j inb) (hl := hl) (k := k) (Q := Q)

end Loads

/-! ## The parts -/

variable (R : Dev nD → Vec F S1024x1 .i32) (W : Dev nD → Vec F S4x256x512 .bf16) (K : Dev nD × Ck → ℕ) (c : Dev nD)

/-- Part 1 stores the device's matrices in slot 0. -/
theorem part1_spec {Q : _ → sProp 𝕄} :
    iprop(held c cc0_stg2_0 (W c) ∗ held c cc0_stg1_0 (R c) ∗ ∃ Y, owns (c : Thread nD τ) (wSlot 0) fullShare Y)
      ⊢ iprop(((held c cc0_stg2_0 (W c) ∗ held c cc0_stg1_0 (R c) ∗ owns (c : Thread nD τ) (wSlot 0) fullShare (wts W c))
            -∗ Q ⟨c, pos c, k0_pay2 (F := F) (R c), cols, k0_pay3, k0_pay4 c⟩)
          -∗ wp frame (wpE (defs₀ (F := F)) 𝒱₀ (c : Thread nD τ) none) Set.univ part1 Q) := by
  rw [part1, k0_part1_eq_skeleton]; unfold k0_part1_skel
  simp only [Prog.lift, Prog.bind_op, Prog.bind_ret, Prog.pure_eq_ret, wp_deviceId]
  iintro ⟨HE, HR, %Y, HW⟩ Hk
  iapply (wp_load_e c (W c)) $$ HE; iintro HE
  iapply (wp_load_slot c wM (slotR 0) (fun _ => rfl) fullShare Y) $$ HW; iintro HW
  iapply (wp_store_slot c wM (slotR 0) (fun _ => rfl) Y (wts W c)) $$ HW; iintro HW
  iapply (wp_load_r c (R c)) $$ HR; iintro HR
  rw [wp_ret]; imodintro
  iapply Hk
  iframe HE HR HW

/-- Part 2 stores the first row of outgoing counts. -/
theorem part2_spec {Q : _ → sProp 𝕄} :
    iprop(held c cc0_stg1_0 (R c) ∗ ∃ Y, owns (c : Thread nD τ) (sRow (up 0)) fullShare Y)
      ⊢ iprop(((held c cc0_stg1_0 (R c) ∗ owns (c : Thread nD τ) (sRow (up 0)) fullShare (cnt R c 0))
            -∗ Q ⟨k0_pay6 (F := F) (R c), Scalar.remsi (Scalar.addi (pos c) 2#32) 4#32, cols, 4#32, k0_pay7⟩)
          -∗ wp frame (wpE (defs₀ (F := F)) 𝒱₀ (c : Thread nD τ) none) Set.univ
              (part2 (pos c) (k0_pay2 (F := F) (R c)) cols k0_pay3 (k0_pay4 c)) Q) := by
  rw [part2, k0_part2_eq_skeleton]; unfold k0_part2_skel
  simp only [Prog.lift, Prog.bind_op, Prog.bind_ret, Prog.pure_eq_ret]
  iintro ⟨HR, %Y, HS⟩ Hk
  iapply (wp_load_slot c sM (rowR (up 0)) (fun _ => rfl) fullShare Y) $$ HS; iintro HS
  iapply (wp_store_slot c sM (rowR (up 0)) (fun _ => rfl) Y (cnt R c 0)) $$ HS; iintro HS
  iapply (wp_load_r c (R c)) $$ HR; iintro HR
  rw [wp_ret]; imodintro
  iapply Hk
  iframe HR HS

/-- Part 3 only computes. -/
theorem part3_spec {Q : _ → sProp 𝕄} (v75 : BitVec 32) (v76 : IVec S1x16 32) (v77 : BitVec 32) (v78 : IVec S1x16 32) :
    Q ⟨k0_pay8 v75 v76 v77 v78, k0_pay9 v76, k0_pay10 v76, k0_pay11 v76⟩
      ⊢ wp frame (wpE (defs₀ (F := F)) 𝒱₀ (c : Thread nD τ) none) Set.univ (part3 v75 v76 v77 v78) Q := by
  rw [part3, k0_part3_eq_skeleton]; unfold k0_part3_skel
  simp only [Prog.pure_eq_ret]
  iintro H
  rw [wp_ret]; imodintro
  iexact H

/-- Part 4 stores the second row of outgoing counts. -/
theorem part4_spec {Q : _ → sProp 𝕄} :
    iprop(held c cc0_stg1_0 (R c) ∗ ∃ Y, owns (c : Thread nD τ) (sRow (up 1)) fullShare Y)
      ⊢ iprop(((held c cc0_stg1_0 (R c) ∗ owns (c : Thread nD τ) (sRow (up 1)) fullShare (cnt R c 1))
            -∗ Q ⟨k0_pay13 (F := F) (R c), cols, k0_pay14 (pos c), 4#32⟩)
          -∗ wp frame (wpE (defs₀ (F := F)) 𝒱₀ (c : Thread nD τ) none) Set.univ
              (part4 (pos c) (k0_pay6 (F := F) (R c)) (k0_pay8 (Scalar.remsi (Scalar.addi (pos c) 2#32) 4#32) cols 4#32 k0_pay7)
                (k0_pay9 cols) (k0_pay10 cols) (k0_pay11 cols)) Q) := by
  rw [part4, k0_part4_eq_skeleton]; unfold k0_part4_skel
  simp only [Prog.lift, Prog.bind_op, Prog.bind_ret, Prog.pure_eq_ret]
  iintro ⟨HR, %Y, HS⟩ Hk
  iapply (wp_load_slot c sM (rowR (up 1)) (fun _ => rfl) fullShare Y) $$ HS; iintro HS
  iapply (wp_store_slot c sM (rowR (up 1)) (fun _ => rfl) Y (cnt R c 1)) $$ HS; iintro HS
  iapply (wp_load_r c (R c)) $$ HR; iintro HR
  rw [wp_ret]; imodintro
  iapply Hk
  iframe HR HS

/-- The device a signal or a copy at shift `j + 1` names. -/
theorem dev_eq {n : ℕ} {hn : n < nD} (j : Fin 3) (h : n = (c.val + (j.val + 1)) % 4) : (⟨n, hn⟩ : Dev nD) = fwd j c := Fin.ext h

/-- Part 5 stores the third row of outgoing counts and signals the next device. -/
theorem part5_spec {Q : _ → sProp 𝕄} :
    iprop(records R W K ∗ (∃ Y, owns (c : Thread nD τ) (sRow (up 2)) fullShare Y) ∗ owing (F := F) c (O₀ c)
        ∗ dutyTok ER (barCell (fwd 0 c)) 0 0 ∗ landing c 2)
      ⊢ iprop(((owns (c : Thread nD τ) (sRow (up 2)) fullShare (cnt R c 2)
              ∗ owing (F := F) c (O₁ c + tallyAt (barCell (fwd 2 c)) () 1 + tallyAt (barCell (fwd 1 c)) () 1))
            -∗ Q ⟨SemArray.scalar (sig.barrier 0 rfl), Scalar.addi (pos c) 2#32, 4#32⟩)
          -∗ wp frame (wpE (defs₀ (F := F)) 𝒱₀ (c : Thread nD τ) none) Set.univ
              (part5 c (pos c) (k0_pay13 (F := F) (R c)) cols (k0_pay14 (pos c)) 4#32) Q) := by
  rw [part5, k0_part5_eq_skeleton]; unfold k0_part5_skel
  simp only [semSignalWord, Prog.lift, Prog.bind_op, Prog.bind_ret, Prog.pure_eq_ret]
  iintro ⟨#HK, ⟨%Y, HS⟩, HO, HT, HL⟩ Hk
  iapply (wp_load_slot c sM (rowR (up 2)) (fun _ => rfl) fullShare Y) $$ HS; iintro HS
  iapply (wp_store_slot c sM (rowR (up 2)) (fun _ => rfl) Y (cnt R c 2)) $$ HS; iintro HS
  iapply (wp_signal_on R W K c 0 _ (dev_eq c 0 (k0_dev1_eq c)) (O₁ c + tallyAt (barCell (fwd 2 c)) () 1 + tallyAt (barCell (fwd 1 c)) () 1)) $$ [HO HT HL]
  · isplitr; · iexact HK
    isplitl [HO]; · iexact HO
    isplitl [HT]; · iexact HT
    iexact HL
  iintro HO
  rw [wp_ret]; imodintro
  iapply Hk
  iframe HS HO

/-- Part 6 signals the two other devices, waits at the barrier, and copies the first row of counts out. -/
theorem part6_spec {Q : _ → sProp 𝕄} (v205 v206 : BitVec 32) :
    iprop(records R W K ∗ levAts L lv ∗ cred (tallyAt (barCell c) () 3)
        ∗ owing (F := F) c (O₁ c + tallyAt (barCell (fwd 2 c)) () 1 + tallyAt (barCell (fwd 1 c)) () 1)
        ∗ dutyTok ER (barCell (fwd 1 c)) 0 1 ∗ landing c 1 ∗ dutyTok ER (barCell (fwd 2 c)) 0 2 ∗ landing c 0
        ∗ atPos ER (barCell c) 0 ∅ 0 ∗ owns (c : Thread nD τ) (sRow (up 0)) fullShare (cnt R c 0)
        ∗ dutyTok ER (xc c 0 2) 0 0 ∗ dutyTok ER (xc (fwd 0 c) 0 3) 0 0)
      ⊢ iprop(((semVal (barCell c) 0 ∗ owing (F := F) c (O₂ c + tallyAt (xc (fwd 0 c) 0 1) () (amt 1 0))
              ∗ cred (tallyAt (xc c 0 2) () (amt 2 0)) ∗ (∃ Y, owns (fwd 0 c : Thread nD τ) (wSlot (up 0)) fullShare Y)
              ∗ landing (fwd 1 c) 1 ∗ landing (fwd 2 c) 2)
            -∗ Q ⟨⟩)
          -∗ wp frame (wpE (defs₀ (F := F)) 𝒱₀ (c : Thread nD τ) none) Set.univ
              (part6 c (pos c) (SemArray.scalar (sig.barrier 0 rfl)) v205 v206) Q) := by
  rw [part6, k0_part6_eq_skeleton]; unfold k0_part6_skel
  simp only [semSignalWord, semWaitWord, Prog.lift, Prog.bind_op, Prog.bind_ret, Prog.pure_eq_ret]
  iintro ⟨#HK, #HL, HC, HO, HT1, HL1, HT2, HL2, HA, HS, HTS, HTR⟩ Hk
  iapply (wp_signal_on R W K c 1 _ (dev_eq c 1 (k0_dev2_eq c)) (O₁ c + tallyAt (barCell (fwd 2 c)) () 1)) $$ [HO HT1 HL1]
  · isplitr; · iexact HK
    isplitl [HO]; · iexact HO
    isplitl [HT1]; · iexact HT1
    iexact HL1
  iintro HO
  iapply (wp_signal_on R W K c 2 _ (dev_eq c 2 (k0_dev3_eq c)) (O₁ c)) $$ [HO HT2 HL2]
  · isplitr; · iexact HK
    isplitl [HO]; · iexact HO
    isplitl [HT2]; · iexact HT2
    iexact HL2
  iintro HO
  iapply (wp_wait_bar R W K c) $$ [HC HO HA]
  · iframe HK HL HC HO HA
  iintro ⟨HO, HZ, HP2, HP1, HP0⟩
  ihave HP0 := (Entails.of_eq (show landing (F := F) (fwd 0 c) 0 = iprop((∃ Y, owns (fwd 0 c : Thread nD τ) (wSlot (up 0)) fullShare Y)
    ∗ (∃ Y, owns (fwd 0 c : Thread nD τ) (tRow (up 0)) fullShare Y)) from rfl)) $$ HP0
  icases HP0 with ⟨HPW, HPT⟩
  iapply (wp_send_cnt R W K c 0 _ (dev_eq c 0 (k0_dev4_eq c)) (O₂ c + tallyAt (xc (fwd 0 c) 0 1) () (amt 1 0))) $$ [HS HPT HO HTS HTR]
  · isplitr; · iexact HK
    isplitl [HS]; · iexact HS
    isplitl [HPT]; · iexact HPT
    isplitl [HO]; · iexact HO
    isplitl [HTS]; · iexact HTS
    iexact HTR
  iintro ⟨HCS, HO⟩
  rw [wp_ret]; imodintro
  iapply Hk
  iframe HZ HO HCS HPW HP1 HP2

/-- Part 7 copies the matrices one place on, and the second row of counts and the matrices two places on. -/
theorem part7_spec {Q : _ → sProp 𝕄} :
    iprop(records R W K ∗ owing (F := F) c (O₂ c + tallyAt (xc (fwd 0 c) 0 1) () (amt 1 0))
        ∗ owns (c : Thread nD τ) (wSlot 0) (lent 0) (wts W c) ∗ owns (c : Thread nD τ) (wSlot 0) (lent 1) (wts W c)
        ∗ owns (c : Thread nD τ) (sRow (up 1)) fullShare (cnt R c 1)
        ∗ (∃ Y, owns (fwd 0 c : Thread nD τ) (wSlot (up 0)) fullShare Y) ∗ landing (fwd 1 c) 1
        ∗ dutyTok ER (xc c 0 0) 0 0 ∗ dutyTok ER (xc (fwd 0 c) 0 1) 0 0
        ∗ dutyTok ER (xc c 1 2) 0 0 ∗ dutyTok ER (xc (fwd 1 c) 1 3) 0 0
        ∗ dutyTok ER (xc c 1 0) 0 0 ∗ dutyTok ER (xc (fwd 1 c) 1 1) 0 0)
      ⊢ iprop(((owing (F := F) c (O₃ c) ∗ cred (tallyAt (xc c 0 0) () (amt 0 0)) ∗ cred (tallyAt (xc c 1 2) () (amt 2 1))
              ∗ cred (tallyAt (xc c 1 0) () (amt 0 1)))
            -∗ Q (Scalar.remsi (Scalar.addi (pos c) 3#32) 4#32))
          -∗ wp frame (wpE (defs₀ (F := F)) 𝒱₀ (c : Thread nD τ) none) Set.univ (part7 c (pos c)) Q) := by
  rw [part7, k0_part7_eq_skeleton]; unfold k0_part7_skel
  simp only [Prog.lift, Prog.bind_op, Prog.bind_ret, Prog.pure_eq_ret]
  unfold landing
  iintro ⟨#HK, HO, HX0, HX1, HS, HPW, ⟨HPW1, HPT1⟩, HA, HB, HC, HD, HE, HF⟩ Hk
  iapply (wp_send_wts R W K c 0 _ (dev_eq c 0 (k0_dev5_eq c)) (O₂ c)) $$ [HX0 HPW HO HA HB]
  · isplitr; · iexact HK
    isplitl [HX0]; · iexact HX0
    isplitl [HPW]; · iexact HPW
    isplitl [HO]; · iexact HO
    isplitl [HA]; · iexact HA
    iexact HB
  iintro ⟨HC0, HO⟩
  iapply (wp_send_cnt R W K c 1 _ (dev_eq c 1 (k0_dev6_eq c)) (O₃ c + tallyAt (xc (fwd 1 c) 1 1) () (amt 1 1))) $$ [HS HPT1 HO HC HD]
  · isplitr; · iexact HK
    isplitl [HS]; · iexact HS
    isplitl [HPT1]; · iexact HPT1
    isplitl [HO]; · iexact HO
    isplitl [HC]; · iexact HC
    iexact HD
  iintro ⟨HC1, HO⟩
  iapply (wp_send_wts R W K c 1 _ (dev_eq c 1 (k0_dev7_eq c)) (O₃ c)) $$ [HX1 HPW1 HO HE HF]
  · isplitr; · iexact HK
    isplitl [HX1]; · iexact HX1
    isplitl [HPW1]; · iexact HPW1
    isplitl [HO]; · iexact HO
    isplitl [HE]; · iexact HE
    iexact HF
  iintro ⟨HC2, HO⟩
  rw [wp_ret]; imodintro
  iapply Hk
  iframe HO HC0 HC1 HC2

/-- Part 8 copies the third row of counts and the matrices three places on; nothing is owed any more. -/
theorem part8_spec {Q : _ → sProp 𝕄} (v258 : BitVec 32) :
    iprop(records R W K ∗ owing (F := F) c (O₃ c) ∗ held c cc0_stg1_0 (R c)
        ∗ owns (c : Thread nD τ) (wSlot 0) (lent 2) (wts W c)
        ∗ owns (c : Thread nD τ) (sRow (up 2)) fullShare (cnt R c 2) ∗ landing (fwd 2 c) 2
        ∗ dutyTok ER (xc c 2 2) 0 0 ∗ dutyTok ER (xc (fwd 2 c) 2 3) 0 0
        ∗ dutyTok ER (xc c 2 0) 0 0 ∗ dutyTok ER (xc (fwd 2 c) 2 1) 0 0)
      ⊢ iprop(((owing (F := F) c 0 ∗ held c cc0_stg1_0 (R c) ∗ cred (tallyAt (xc c 2 2) () (amt 2 2)) ∗ cred (tallyAt (xc c 2 0) () (amt 0 2)))
            -∗ Q ⟨k0_pay16 (F := F) (R c), cols, 4#32, k0_pay17, k0_pay18, k0_pay19⟩)
          -∗ wp frame (wpE (defs₀ (F := F)) 𝒱₀ (c : Thread nD τ) none) Set.univ (part8 c v258) Q) := by
  rw [part8, k0_part8_eq_skeleton]; unfold k0_part8_skel
  simp only [Prog.lift, Prog.bind_op, Prog.bind_ret, Prog.pure_eq_ret]
  unfold landing
  iintro ⟨#HK, HO, HR, HX, HS, ⟨HPW, HPT⟩, HA, HB, HC, HD⟩ Hk
  iapply (wp_send_cnt R W K c 2 _ (dev_eq c 2 (k0_dev8_eq c)) (0 + tallyAt (xc (fwd 2 c) 2 1) () (amt 1 2))) $$ [HS HPT HO HA HB]
  · isplitr; · iexact HK
    isplitl [HS]; · iexact HS
    isplitl [HPT]; · iexact HPT
    isplitl [HO]; · iexact HO
    isplitl [HA]; · iexact HA
    iexact HB
  iintro ⟨HC0, HO⟩
  iapply (wp_send_wts R W K c 2 _ (dev_eq c 2 (k0_dev9_eq c)) 0) $$ [HX HPW HO HC HD]
  · isplitr; · iexact HK
    isplitl [HX]; · iexact HX
    isplitl [HPW]; · iexact HPW
    isplitl [HO]; · iexact HO
    isplitl [HC]; · iexact HC
    iexact HD
  iintro ⟨HC1, HO⟩
  iapply (wp_load_r c (R c)) $$ HR; iintro HR
  rw [wp_ret]; imodintro
  iapply Hk
  iframe HO HR HC0 HC1

end Cert.KernelIdeal.Wire
-- ==== Proof.Collect.lean ====
/-
# The kernel's parts from the first wait on a copy to the stored result

What each part needs, what it leaves, and the values it passes on: the waits for the counts and the matrices of the other
devices, the products, the waits for the device's own copies to have left, and the store of the result.
-/
module

public import proofs.«01_k».proof.Proof.Parts

@[expose] public section

set_option maxRecDepth 16384

noncomputable section

namespace Cert.KernelIdeal.Wire

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x256 .bf16) (R : Dev nD → Vec F S1024x1 .i32) (W : Dev nD → Vec F S4x256x512 .bf16)
variable (K : Dev nD × Ck → ℕ) (c : Dev nD)

/-! ## The four kinds of wait -/

/-- What a wait on the copy of kind `a` at shift `j + 1` needs, besides the records, -/
def due (j : Fin 3) (a : Fin 4) : sProp 𝕄 := iprop(cred (tallyAt (xc c j a) () (amt a j)) ∗ atPos ER (xc c j a) 0 ∅ 0)

/-- After this wait the matrices have left: the share of slot 0 is back. -/
theorem wp_sent_wts (j : Fin 3) {m₁ : Memref sig .tc .vmem S4x256x512 .bf16} {h₁ : m₁.view.WordExact}
    {h₂ : ((wSlot 0).squeeze S4x256x512 squeezes_S1x4x256x512_S4x256x512).view.WordExact}
    {α : Type} {Q : α → sProp 𝕄} {k : PUnit → Prog (TpuEff nD τ sig (Elt F) Λ₀ .tc) α} :
    iprop(records R W K ∗ due c j 0 ∗ owing (F := F) c 0)
      ⊢ iprop(((owing (F := F) c 0 ∗ semVal (xc c j 0) 0 ∗ owns (c : Thread nD τ) (wSlot 0) (lent j) (wts W c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (dsem 0 j) m₁ ((wSlot 0).squeeze S4x256x512 squeezes_S1x4x256x512_S4x256x512) h₁ h₂) k) Q) := by
  unfold due
  iintro ⟨#HR, ⟨HC, HA⟩, HO⟩
  iapply (wp_wait_copy R W K c j 0 (wpE_waitDma2_eq 𝒱₀ (c : Thread nD τ) none Set.univ
    (dst := (wSlot 0).squeeze S4x256x512 squeezes_S1x4x256x512_S4x256x512)))
  iframe HR HC HA HO

/-- After this wait the matrices of the device `j + 1` places back have arrived. -/
theorem wp_got_wts (j : Fin 3) {m₁ : Memref sig .tc .vmem S4x256x512 .bf16} {h₁ : m₁.view.WordExact}
    {h₂ : ((wSlot (up j)).squeeze S4x256x512 squeezes_S1x4x256x512_S4x256x512).view.WordExact}
    {α : Type} {Q : α → sProp 𝕄} {k : PUnit → Prog (TpuEff nD τ sig (Elt F) Λ₀ .tc) α} :
    iprop(records R W K ∗ due c j 1 ∗ owing (F := F) c 0)
      ⊢ iprop(((owing (F := F) c 0 ∗ semVal (xc c j 1) 0 ∗ owns (c : Thread nD τ) (wSlot (up j)) fullShare (wts W (bwd j c)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (dsem 1 j) m₁ ((wSlot (up j)).squeeze S4x256x512 squeezes_S1x4x256x512_S4x256x512) h₁ h₂) k) Q) := by
  unfold due
  iintro ⟨#HR, ⟨HC, HA⟩, HO⟩
  iapply (wp_wait_copy R W K c j 1 (wpE_waitDma2_eq 𝒱₀ (c : Thread nD τ) none Set.univ
    (dst := (wSlot (up j)).squeeze S4x256x512 squeezes_S1x4x256x512_S4x256x512)))
  iframe HR HC HA HO

/-- After this wait the row of counts has left. -/
theorem wp_sent_cnt (j : Fin 3) {m₁ : Memref sig .tc .vmem S1x16 .f32} {h₁ : m₁.view.WordExact}
    {h₂ : ((sRow (up j)).squeeze S1x16 squeezes_S1x1x16_S1x16).view.WordExact}
    {α : Type} {Q : α → sProp 𝕄} {k : PUnit → Prog (TpuEff nD τ sig (Elt F) Λ₀ .tc) α} :
    iprop(records R W K ∗ due c j 2 ∗ owing (F := F) c 0)
      ⊢ iprop(((owing (F := F) c 0 ∗ semVal (xc c j 2) 0 ∗ owns (c : Thread nD τ) (sRow (up j)) fullShare (cnt R c j))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (dsem 2 j) m₁ ((sRow (up j)).squeeze S1x16 squeezes_S1x1x16_S1x16) h₁ h₂) k) Q) := by
  unfold due
  iintro ⟨#HR, ⟨HC, HA⟩, HO⟩
  iapply (wp_wait_copy R W K c j 2 (wpE_waitDma2_eq 𝒱₀ (c : Thread nD τ) none Set.univ
    (dst := (sRow (up j)).squeeze S1x16 squeezes_S1x1x16_S1x16)))
  iframe HR HC HA HO

/-- After this wait the counts of the device `j + 1` places back have arrived. -/
theorem wp_got_cnt (j : Fin 3) {m₁ : Memref sig .tc .vmem S1x16 .f32} {h₁ : m₁.view.WordExact}
    {h₂ : ((tRow (up j)).squeeze S1x16 squeezes_S1x1x16_S1x16).view.WordExact}
    {α : Type} {Q : α → sProp 𝕄} {k : PUnit → Prog (TpuEff nD τ sig (Elt F) Λ₀ .tc) α} :
    iprop(records R W K ∗ due c j 3 ∗ owing (F := F) c 0)
      ⊢ iprop(((owing (F := F) c 0 ∗ semVal (xc c j 3) 0 ∗ owns (c : Thread nD τ) (tRow (up j)) fullShare (cnt R (bwd j c) j))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (dsem 3 j) m₁ ((tRow (up j)).squeeze S1x16 squeezes_S1x1x16_S1x16) h₁ h₂) k) Q) := by
  unfold due
  iintro ⟨#HR, ⟨HC, HA⟩, HO⟩
  iapply (wp_wait_copy R W K c j 3 (wpE_waitDma2_eq 𝒱₀ (c : Thread nD τ) none Set.univ
    (dst := (tRow (up j)).squeeze S1x16 squeezes_S1x1x16_S1x16)))
  iframe HR HC HA HO

/-! ## The parts -/

/-- Part 9 only computes. -/
theorem part9_spec {Q : _ → sProp 𝕄} :
    Q ⟨oneHot R c, iota .tc S1024x1024 32 [0] iota_S1024x1024_d0_w32⟩
      ⊢ wp frame (wpE (defs₀ (F := F)) 𝒱₀ (c : Thread nD τ) none) Set.univ (part9 (pos c) (k0_pay16 (F := F) (R c)) cols 4#32 k0_pay17 k0_pay18 k0_pay19) Q := by
  rw [part9, k0_part9_eq_skeleton]; unfold k0_part9_skel
  simp only [Prog.pure_eq_ret]
  iintro H
  rw [wp_ret]; imodintro
  unfold oneHot
  iexact H

/-- Part 10 reads the tokens and receives two rows of counts. -/
theorem part10_spec {Q : _ → sProp 𝕄} :
    iprop(records R W K ∗ due c 0 3 ∗ due c 1 3 ∗ owing (F := F) c 0 ∗ held c cc0_stg0_0 (X c))
      ⊢ iprop(((owing (F := F) c 0 ∗ held c cc0_stg0_0 (X c) ∗ semVal (xc c 0 3) 0 ∗ semVal (xc c 1 3) 0
              ∗ owns (c : Thread nD τ) (tRow (up 0)) fullShare (cnt R (bwd 0 c) 0) ∗ owns (c : Thread nD τ) (tRow (up 1)) fullShare (cnt R (bwd 1 c) 1))
            -∗ Q ⟨rank R c, tok X c⟩)
          -∗ wp frame (wpE (defs₀ (F := F)) 𝒱₀ (c : Thread nD τ) none) Set.univ
              (part10 (pos c) (oneHot R c) (iota .tc S1024x1024 32 [0] iota_S1024x1024_d0_w32)) Q) := by
  rw [part10, k0_part10_eq_skeleton]; unfold k0_part10_skel
  simp only [Prog.lift, Prog.bind_op, Prog.bind_ret, Prog.pure_eq_ret]
  iintro ⟨#HK, HD0, HD1, HO, HX⟩ Hk
  iapply (wp_load_x c (X c)) $$ HX; iintro HX
  iapply (wp_got_cnt R W K c 0) $$ [HD0 HO]
  · iframe HK HD0 HO
  iintro ⟨HO, HZ0, HT0⟩
  iapply (wp_got_cnt R W K c 1) $$ [HD1 HO]
  · iframe HK HD1 HO
  iintro ⟨HO, HZ1, HT1⟩
  rw [wp_ret]; imodintro
  unfold rank tok
  iapply Hk
  iframe HO HX HZ0 HZ1 HT0 HT1

/-- Part 11 receives the third row of counts and reads all three. -/
theorem part11_spec {Q : _ → sProp 𝕄} :
    iprop(records R W K ∗ due c 2 3 ∗ owing (F := F) c 0 ∗ owns (c : Thread nD τ) (tRow (up 0)) fullShare (cnt R (bwd 0 c) 0) ∗ owns (c : Thread nD τ) (tRow (up 1)) fullShare (cnt R (bwd 1 c) 1))
      ⊢ iprop(((owing (F := F) c 0 ∗ semVal (xc c 2 3) 0 ∗ owns (c : Thread nD τ) (tRow (up 0)) fullShare (cnt R (bwd 0 c) 0)
              ∗ owns (c : Thread nD τ) (tRow (up 1)) fullShare (cnt R (bwd 1 c) 1) ∗ owns (c : Thread nD τ) (tRow (up 2)) fullShare (cnt R (bwd 2 c) 2))
            -∗ Q ⟨keep R c, k0_pay24, k0_pay25 (pos c) (oneHot R c) (rank R c) (tok X c) (cnt R (bwd 0 c) 0) (cnt R (bwd 1 c) 1) (cnt R (bwd 2 c) 2)⟩)
          -∗ wp frame (wpE (defs₀ (F := F)) 𝒱₀ (c : Thread nD τ) none) Set.univ
              (part11 (pos c) (oneHot R c) (rank R c) (tok X c)) Q) := by
  rw [part11, k0_part11_eq_skeleton]; unfold k0_part11_skel
  simp only [Prog.lift, Prog.bind_op, Prog.bind_ret, Prog.pure_eq_ret]
  iintro ⟨#HK, HD2, HO, HT0, HT1⟩ Hk
  iapply (wp_got_cnt R W K c 2) $$ [HD2 HO]
  · iframe HK HD2 HO
  iintro ⟨HO, HZ2, HT2⟩
  iapply (wp_load_slot c tM (rowR (up 0)) (fun _ => rfl) fullShare (cnt R (bwd 0 c) 0)) $$ HT0; iintro HT0
  iapply (wp_load_slot c tM (rowR (up 1)) (fun _ => rfl) fullShare (cnt R (bwd 1 c) 1)) $$ HT1; iintro HT1
  iapply (wp_load_slot c tM (rowR (up 2)) (fun _ => rfl) fullShare (cnt R (bwd 2 c) 2)) $$ HT2; iintro HT2
  rw [wp_ret]; imodintro
  unfold keep
  iapply Hk
  iframe HO HZ2 HT0 HT1 HT2

/-- Part 12 multiplies with the device's own matrices, reading slot 0 with the share that was kept. -/
theorem part12_spec {Q : _ → sProp 𝕄} :
    iprop(owns (c : Thread nD τ) (wSlot 0) kept (wts W c))
      ⊢ iprop(((owns (c : Thread nD τ) (wSlot 0) kept (wts W c))
            -∗ Q (acc0 X R W c))
          -∗ wp frame (wpE (defs₀ (F := F)) 𝒱₀ (c : Thread nD τ) none) Set.univ
              (part12 (pos c) (tok X c) (keep R c) k0_pay24
                (k0_pay25 (pos c) (oneHot R c) (rank R c) (tok X c) (cnt R (bwd 0 c) 0) (cnt R (bwd 1 c) 1) (cnt R (bwd 2 c) 2))) Q) := by
  rw [part12, k0_part12_eq_skeleton]; unfold k0_part12_skel
  simp only [Prog.lift, Prog.bind_op, Prog.bind_ret, Prog.pure_eq_ret]
  iintro HW Hk
  iapply (wp_load_mat c W c 0 0 kept) $$ HW; iintro HW
  iapply (wp_load_mat c W c 0 1 kept) $$ HW; iintro HW
  iapply (wp_load_mat c W c 0 2 kept) $$ HW; iintro HW
  iapply (wp_load_mat c W c 0 3 kept) $$ HW; iintro HW
  rw [wp_ret]; imodintro
  unfold acc0
  iapply Hk
  iexact HW

/-- Part 13 receives the matrices from one place back and multiplies with them. -/
theorem part13_spec {Q : _ → sProp 𝕄} :
    iprop(records R W K ∗ due c 0 1 ∗ owing (F := F) c 0)
      ⊢ iprop(((owing (F := F) c 0 ∗ semVal (xc c 0 1) 0 ∗ owns (c : Thread nD τ) (wSlot (up 0)) fullShare (wts W (bwd 0 c)))
            -∗ Q (acc1 X R W c))
          -∗ wp frame (wpE (defs₀ (F := F)) 𝒱₀ (c : Thread nD τ) none) Set.univ
              (part13 (pos c) (tok X c) (keep R c) (acc0 X R W c)) Q) := by
  rw [part13, k0_part13_eq_skeleton]; unfold k0_part13_skel
  simp only [Prog.lift, Prog.bind_op, Prog.bind_ret, Prog.pure_eq_ret]
  iintro ⟨#HK, HD, HO⟩ Hk
  iapply (wp_got_wts R W K c 0) $$ [HD HO]
  · iframe HK HD HO
  iintro ⟨HO, HZ, HW⟩
  iapply (wp_load_mat c W (bwd 0 c) (up 0) 0 fullShare) $$ HW; iintro HW
  iapply (wp_load_mat c W (bwd 0 c) (up 0) 1 fullShare) $$ HW; iintro HW
  iapply (wp_load_mat c W (bwd 0 c) (up 0) 2 fullShare) $$ HW; iintro HW
  iapply (wp_load_mat c W (bwd 0 c) (up 0) 3 fullShare) $$ HW; iintro HW
  rw [wp_ret]; imodintro
  unfold acc1
  iapply Hk
  iframe HO HZ HW

/-- Part 14 does so from two places back. -/
theorem part14_spec {Q : _ → sProp 𝕄} :
    iprop(records R W K ∗ due c 1 1 ∗ owing (F := F) c 0)
      ⊢ iprop(((owing (F := F) c 0 ∗ semVal (xc c 1 1) 0 ∗ owns (c : Thread nD τ) (wSlot (up 1)) fullShare (wts W (bwd 1 c)))
            -∗ Q ⟨acc2 X R W c, last2 X R W c⟩)
          -∗ wp frame (wpE (defs₀ (F := F)) 𝒱₀ (c : Thread nD τ) none) Set.univ
              (part14 (tok X c) (keep R c) (acc1 X R W c)) Q) := by
  rw [part14, k0_part14_eq_skeleton]; unfold k0_part14_skel
  simp only [Prog.lift, Prog.bind_op, Prog.bind_ret, Prog.pure_eq_ret]
  iintro ⟨#HK, HD, HO⟩ Hk
  iapply (wp_got_wts R W K c 1) $$ [HD HO]
  · iframe HK HD HO
  iintro ⟨HO, HZ, HW⟩
  iapply (wp_load_mat c W (bwd 1 c) (up 1) 0 fullShare) $$ HW; iintro HW
  iapply (wp_load_mat c W (bwd 1 c) (up 1) 1 fullShare) $$ HW; iintro HW
  iapply (wp_load_mat c W (bwd 1 c) (up 1) 2 fullShare) $$ HW; iintro HW
  iapply (wp_load_mat c W (bwd 1 c) (up 1) 3 fullShare) $$ HW; iintro HW
  rw [wp_ret]; imodintro
  unfold acc2 last2
  iapply Hk
  iframe HO HZ HW

/-- Part 15 does so from three places back, but for the last matrix. -/
theorem part15_spec {Q : _ → sProp 𝕄} :
    iprop(records R W K ∗ due c 2 1 ∗ owing (F := F) c 0)
      ⊢ iprop(((owing (F := F) c 0 ∗ semVal (xc c 2 1) 0 ∗ owns (c : Thread nD τ) (wSlot (up 2)) fullShare (wts W (bwd 2 c)))
            -∗ Q ⟨acc3 X R W c, k0_pay31 (keep R c)⟩)
          -∗ wp frame (wpE (defs₀ (F := F)) 𝒱₀ (c : Thread nD τ) none) Set.univ
              (part15 (pos c) (tok X c) (keep R c) (acc2 X R W c) (last2 X R W c)) Q) := by
  rw [part15, k0_part15_eq_skeleton]; unfold k0_part15_skel
  simp only [Prog.lift, Prog.bind_op, Prog.bind_ret, Prog.pure_eq_ret]
  iintro ⟨#HK, HD, HO⟩ Hk
  iapply (wp_got_wts R W K c 2) $$ [HD HO]
  · iframe HK HD HO
  iintro ⟨HO, HZ, HW⟩
  iapply (wp_load_mat c W (bwd 2 c) (up 2) 0 fullShare) $$ HW; iintro HW
  iapply (wp_load_mat c W (bwd 2 c) (up 2) 1 fullShare) $$ HW; iintro HW
  iapply (wp_load_mat c W (bwd 2 c) (up 2) 2 fullShare) $$ HW; iintro HW
  rw [wp_ret]; imodintro
  unfold acc3
  iapply Hk
  iframe HO HZ HW

/-- Part 16 multiplies with the last matrix and waits for three of the copies to have left. -/
theorem part16_spec {Q : _ → sProp 𝕄} :
    iprop(records R W K ∗ due c 0 2 ∗ due c 0 0 ∗ due c 1 2 ∗ owing (F := F) c 0 ∗ owns (c : Thread nD τ) (wSlot (up 2)) fullShare (wts W (bwd 2 c)))
      ⊢ iprop(((owing (F := F) c 0 ∗ owns (c : Thread nD τ) (wSlot (up 2)) fullShare (wts W (bwd 2 c)) ∗ semVal (xc c 0 2) 0 ∗ semVal (xc c 0 0) 0
              ∗ semVal (xc c 1 2) 0 ∗ owns (c : Thread nD τ) (sRow (up 0)) fullShare (cnt R c 0) ∗ owns (c : Thread nD τ) (wSlot 0) (lent 0) (wts W c)
              ∗ owns (c : Thread nD τ) (sRow (up 1)) fullShare (cnt R c 1))
            -∗ Q (res X R W c))
          -∗ wp frame (wpE (defs₀ (F := F)) 𝒱₀ (c : Thread nD τ) none) Set.univ
              (part16 (tok X c) (acc3 X R W c) (k0_pay31 (keep R c))) Q) := by
  rw [part16, k0_part16_eq_skeleton]; unfold k0_part16_skel
  simp only [Prog.lift, Prog.bind_op, Prog.bind_ret, Prog.pure_eq_ret]
  iintro ⟨#HK, HD0, HD1, HD2, HO, HW⟩ Hk
  iapply (wp_load_mat c W (bwd 2 c) (up 2) 3 fullShare) $$ HW; iintro HW
  iapply (wp_sent_cnt R W K c 0) $$ [HD0 HO]
  · iframe HK HD0 HO
  iintro ⟨HO, HZ0, HS0⟩
  iapply (wp_sent_wts R W K c 0) $$ [HD1 HO]
  · iframe HK HD1 HO
  iintro ⟨HO, HZ1, HL⟩
  iapply (wp_sent_cnt R W K c 1) $$ [HD2 HO]
  · iframe HK HD2 HO
  iintro ⟨HO, HZ2, HS1⟩
  rw [wp_ret]; imodintro
  unfold res
  iapply Hk
  iframe HO HW HZ0 HZ1 HZ2 HS0 HL HS1

end Cert.KernelIdeal.Wire
-- ==== Proof.Body.lean ====
/-
# One device's run of the kernel

The scratch buffers are split into their slots and rows, the seventeen parts are run one after the other, and the slots and
rows, which the copies have brought back, are put together again.
-/
module

public import proofs.«01_k».proof.Proof.Collect

@[expose] public section

set_option maxRecDepth 16384

noncomputable section

namespace Cert.KernelIdeal.Wire

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The scratch buffers in pieces -/

theorem pieces {sp : Space} {sh : Shape} {e : EltTy} (c : Dev nD) (m : Memref sig .tc sp sh e) (r : Fin 4 → Rect sh)
    (hr : ∀ t a, (r t).stride a = 1) (hd : ∀ t t', t ≠ t' → Disjoint (r t).set (r t').set)
    (hcov : (Finset.univ : Finset (Fin 4)).biUnion (fun t => (r t).set) = Finset.univ) :
    (iprop(∃ g, m.view.loc (c : Thread nD τ) ↦[m.view.set]{fullShare} g) : sProp 𝕄)
      ⊣⊢ bigSep Finset.univ fun t => iprop(∃ Y, owns (c : Thread nD τ) (m.slice (r t) (hr t)) fullShare Y) := by
  constructor
  · iintro ⟨%g, H⟩
    ihave H := (Entails.of_eq (pointsTo_rects (Val := Elt F) (c : Thread nD τ) m fullShare r hr hd hcov g)) $$ H
    have h : (bigSep Finset.univ fun t => (owns (c : Thread nD τ) (m.slice (r t) (hr t)) fullShare (fun j => m.view.read (Elt F) g ((r t).emb j)) : sProp 𝕄))
        ⊢ bigSep Finset.univ fun t => iprop(∃ Y, owns (c : Thread nD τ) (m.slice (r t) (hr t)) fullShare Y) :=
      bigSep_mono fun t _ => show (_ : sProp 𝕄) ⊢ _ by iintro H; iexists _; iexact H
    iapply h
    iexact H
  · iintro H
    ihave H := (BI.bigSep_exists_pi Finset.univ (fun (t : Fin 4) (Y : (r t).shape.Idx → Elt F e) => (owns (c : Thread nD τ) (m.slice (r t) (hr t)) fullShare Y : sProp 𝕄))) $$ H
    icases H with ⟨%Xs, H⟩
    have hg : (fun t => (owns (c : Thread nD τ) (m.slice (r t) (hr t)) fullShare (Xs t) : sProp 𝕄))
        = fun t => owns (c : Thread nD τ) (m.slice (r t) (hr t)) fullShare (fun j => Rect.glue r hcov Xs ((r t).emb j)) :=
      funext fun t => congrArg _ (funext fun y => (Rect.glue_emb r hcov hd Xs t y).symm)
    ihave H := (Entails.of_eq (congrArg (bigSep Finset.univ) hg)) $$ H
    ihave H := (owns_of_rects (c : Thread nD τ) m fullShare r hr hd hcov (Rect.glue r hcov Xs)) $$ H
    unfold owns
    icases H with ⟨%f, -, H⟩
    iexists f; iexact H

theorem bigSep_four (Φ : Fin 4 → sProp 𝕄) : bigSep Finset.univ Φ = iprop(Φ 0 ∗ Φ (up 0) ∗ Φ (up 1) ∗ Φ (up 2)) :=
  bigSep_univ_eq_bigSepL [0, 1, 2, 3] (by decide) (by decide) Φ

theorem slots_disjoint (t t' : Fin 4) (h : t ≠ t') : Disjoint (slotR t).set (slotR t').set :=
  Rect.unit_disjoint 0 (by have := Fin.val_ne_of_ne h; simp; omega)
theorem slots_cover : (Finset.univ : Finset (Fin 4)).biUnion (fun t => (slotR t).set) = Finset.univ := by
  ext i
  simp only [Finset.mem_biUnion, Finset.mem_univ, true_and, iff_true]
  refine ⟨i 0, Rect.mem_set_unit.mpr fun a => ?_⟩
  have ha := (i a).isLt
  fin_cases a <;> simp_all [S1x4x256x512, S4x4x256x512]
theorem rows_disjoint (t t' : Fin 4) (h : t ≠ t') : Disjoint (rowR t).set (rowR t').set :=
  Rect.unit_disjoint 0 (by have := Fin.val_ne_of_ne h; simp; omega)
theorem rows_cover : (Finset.univ : Finset (Fin 4)).biUnion (fun t => (rowR t).set) = Finset.univ := by
  ext i
  simp only [Finset.mem_biUnion, Finset.mem_univ, true_and, iff_true]
  refine ⟨i 0, Rect.mem_set_unit.mpr fun a => ?_⟩
  have ha := (i a).isLt
  fin_cases a <;> simp_all [S1x1x16, S4x1x16]

/-- The three scratch buffers, at whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ ∃ f : Buf (Elt F) ((c : Thread nD τ).loc cc0_scratch2), ((c : Thread nD τ).loc cc0_scratch2) ↦{fullShare} f)

/-- A piece of a buffer, at whatever it holds. -/
def piece {sp : Space} {sh : Shape} {e : EltTy} (c : Dev nD) (m : Memref sig .tc sp sh e) : sProp 𝕄 :=
  iprop(∃ Y, owns (c : Thread nD τ) m fullShare Y)

theorem scratch_pieces (c : Dev nD) :
    scratch (F := F) c ⊣⊢ iprop((piece c (wSlot 0) ∗ piece c (wSlot (up 0)) ∗ piece c (wSlot (up 1)) ∗ piece c (wSlot (up 2)))
      ∗ (piece c (sRow 0) ∗ piece c (sRow (up 0)) ∗ piece c (sRow (up 1)) ∗ piece c (sRow (up 2)))
      ∗ piece c (tRow 0) ∗ piece c (tRow (up 0)) ∗ piece c (tRow (up 1)) ∗ piece c (tRow (up 2))) := by
  have hw := pieces (F := F) c wM slotR (fun _ _ => rfl) slots_disjoint slots_cover
  have hs := pieces (F := F) c sM rowR (fun _ _ => rfl) rows_disjoint rows_cover
  have ht := pieces (F := F) c tM rowR (fun _ _ => rfl) rows_disjoint rows_cover
  rw [bigSep_four, Memref.view_whole, View.set_whole] at hw hs ht
  unfold scratch piece
  exact ⟨BIClass.sep_mono hw.1 (BIClass.sep_mono hs.1 ht.1), BIClass.sep_mono hw.2 (BIClass.sep_mono hs.2 ht.2)⟩

variable (X : Dev nD → Vec F S1024x256 .bf16) (R : Dev nD → Vec F S1024x1 .i32) (W : Dev nD → Vec F S4x256x512 .bf16)
variable (K : Dev nD × Ck → ℕ) (c : Dev nD)

/-- The four shares of slot 0. -/
theorem shares (V : FVec F S1x4x256x512 .bf16) : (owns (c : Thread nD τ) (wSlot 0) fullShare V : sProp 𝕄)
    ⊣⊢ iprop((owns (c : Thread nD τ) (wSlot 0) (lent 0) V ∗ owns (c : Thread nD τ) (wSlot 0) (lent 1) V)
      ∗ owns (c : Thread nD τ) (wSlot 0) (lent 2) V ∗ owns (c : Thread nD τ) (wSlot 0) kept V) := by
  have h := owns_halves (Val := Elt F) (Ix := Unit) (Name := ℕ) (U := UU) (Lvl := ℕ) (c : Thread nD τ) (wSlot 0)
  exact ⟨(h _ V).1.trans (BIClass.sep_mono (h _ V).1 (h _ V).1), (BIClass.sep_mono (h _ V).2 (h _ V).2).trans (h _ V).2⟩

/-- The semaphores of shift `k + 1`, all back at zero. -/
def zeros (k : Fin 3) : sProp 𝕄 :=
  iprop(semVal (xc c k 0) 0 ∗ semVal (xc c k 1) 0 ∗ semVal (xc c k 2) 0 ∗ semVal (xc c k 3) 0)

/-- What the device starts with, for one choice of the names of its cells, -/
def before : sProp 𝕄 :=
  iprop((ghost R W K c ∗ cred (tallyAt (barCell c) () 3) ∗ (credits c 0 ∗ credits c 1 ∗ credits c 2) ∗ levAts L lv)
    ∗ scratch c ∗ owing (F := F) c (O₀ c)
    ∗ held c cc0_stg0_0 (X c) ∗ held c cc0_stg1_0 (R c) ∗ held c cc0_stg2_0 (W c) ∗ ∃ V, held c cc0_stg3_0 V)

/-- the end of its run on its semaphores and scratch buffers, -/
def settled : sProp 𝕄 :=
  iprop(scratch c ∗ (zeros (F := F) c 0 ∗ zeros c 1 ∗ zeros c 2) ∗ semVal (barCell c) 0)

/-- and all it ends with: its inputs as they were, the result computed, nothing owed. -/
def after : sProp 𝕄 :=
  iprop(settled (F := F) c ∗ owing (F := F) c 0
    ∗ held c cc0_stg0_0 (X c) ∗ held c cc0_stg1_0 (R c) ∗ held c cc0_stg2_0 (W c) ∗ held c cc0_stg3_0 (res X R W c))

set_option maxHeartbeats 2000000 in
/-- The kernel's run on one device. -/
theorem run_body {Q : PUnit → sProp 𝕄} :
    iprop(before X R W K c ∗ (after X R W c -∗ Q ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Q := by
  rw [cc0_body_eq_skeleton]; unfold cc0_body_skel
  rw [wp_bind, k0_part17_eq_skeleton]; unfold k0_part17_skel
  unfold before ghost places payToks credits
  iintro ⟨⟨⟨⟨#HK, HaB, ⟨⟨Ha00, Ha01, Ha02, Ha03⟩, ⟨Ha10, Ha11, Ha12, Ha13⟩, Ha20, Ha21, Ha22, Ha23⟩,
    ⟨HtB0, HtA01, HtA03, HtA00, HtA02⟩, ⟨HtB1, HtA11, HtA13, HtA10, HtA12⟩, HtB2, HtA21, HtA23, HtA20, HtA22⟩,
    HcB, ⟨⟨Hc01, Hc03⟩, ⟨Hc11, Hc13⟩, Hc21, Hc23⟩, #Hlev⟩, Hscr, HO, HX, HR, HW, %V, HV⟩, Hk⟩
  ihave Hp := (scratch_pieces (F := F) c).1 $$ Hscr
  unfold piece
  icases Hp with ⟨⟨HS0, HS1, HS2, HS3⟩, ⟨Hs0, Hs1, Hs2, Hs3⟩, Ht0, Ht1, Ht2, Ht3⟩
  rw [wp_bind]; iapply (part1_spec R W c) $$ [HW HR HS0]
  · iframe HW HR HS0
  iintro ⟨HW, HR, HS0⟩
  ihave HS0 := (shares (F := F) c (wts W c)).1 $$ HS0
  icases HS0 with ⟨⟨HL0, HL1⟩, HL2, HLk⟩
  dsimp only
  rw [wp_bind]; iapply (part2_spec R c) $$ [HR Hs1]
  · iframe HR Hs1
  iintro ⟨HR, Hs1⟩
  dsimp only
  rw [wp_bind]; iapply (part3_spec (F := F) c)
  dsimp only
  rw [wp_bind]; iapply (part4_spec R c) $$ [HR Hs2]
  · iframe HR Hs2
  iintro ⟨HR, Hs2⟩
  dsimp only
  rw [wp_bind]; iapply (part5_spec R W K c) $$ [Hs3 HO HtB0 HS3 Ht3]
  · unfold landing; iframe HK Hs3 HO HtB0 HS3 Ht3
  iintro ⟨Hs3, HO⟩
  dsimp only
  rw [wp_bind]; iapply (part6_spec R W K c _ _) $$ [HcB HO HtB1 HtB2 HaB Hs1 HtA02 HtA03 HS2 Ht2 HS1 Ht1]
  · unfold landing; iframe HK Hlev HcB HO HtB1 HtB2 HaB Hs1 HtA02 HtA03 HS2 Ht2 HS1 Ht1
  iintro ⟨HzB, HO, Hc02, HN0, HN1, HN2⟩
  rw [wp_bind]; iapply (part7_spec R W K c) $$ [HO HL0 HL1 Hs2 HN0 HN1 HtA00 HtA01 HtA12 HtA13 HtA10 HtA11]
  · iframe HK HO HL0 HL1 Hs2 HN0 HN1 HtA00 HtA01 HtA12 HtA13 HtA10 HtA11
  iintro ⟨HO, Hc00, Hc12, Hc10⟩
  rw [wp_bind]; iapply (part8_spec R W K c _) $$ [HO HR HL2 Hs3 HN2 HtA22 HtA23 HtA20 HtA21]
  · iframe HK HO HR HL2 Hs3 HN2 HtA22 HtA23 HtA20 HtA21
  iintro ⟨HO, HR, Hc22, Hc20⟩
  dsimp only
  rw [wp_bind]; iapply (part9_spec R c)
  dsimp only
  rw [wp_bind]; iapply (part10_spec X R W K c) $$ [Hc03 Ha03 Hc13 Ha13 HO HX]
  · unfold due; iframe HK Hc03 Ha03 Hc13 Ha13 HO HX
  iintro ⟨HO, HX, Hz03, Hz13, Ht1, Ht2⟩
  dsimp only
  rw [wp_bind]; iapply (part11_spec X R W K c) $$ [Hc23 Ha23 HO Ht1 Ht2]
  · unfold due; iframe HK Hc23 Ha23 HO Ht1 Ht2
  iintro ⟨HO, Hz23, Ht1, Ht2, Ht3⟩
  dsimp only
  rw [wp_bind]; iapply (part12_spec X R W c) $$ [HLk]
  · iexact HLk
  iintro HLk
  rw [wp_bind]; iapply (part13_spec X R W K c) $$ [Hc01 Ha01 HO]
  · unfold due; iframe HK Hc01 Ha01 HO
  iintro ⟨HO, Hz01, HS1⟩
  rw [wp_bind]; iapply (part14_spec X R W K c) $$ [Hc11 Ha11 HO]
  · unfold due; iframe HK Hc11 Ha11 HO
  iintro ⟨HO, Hz11, HS2⟩
  dsimp only
  rw [wp_bind]; iapply (part15_spec X R W K c) $$ [Hc21 Ha21 HO]
  · unfold due; iframe HK Hc21 Ha21 HO
  iintro ⟨HO, Hz21, HS3⟩
  dsimp only
  rw [wp_bind]; iapply (part16_spec X R W K c) $$ [Hc02 Ha02 Hc00 Ha00 Hc12 Ha12 HO HS3]
  · unfold due; iframe HK Hc02 Ha02 Hc00 Ha00 Hc12 Ha12 HO HS3
  iintro ⟨HO, HS3, Hz02, Hz00, Hz12, Hs1, HL0, Hs2⟩
  simp only [Prog.lift, Prog.bind_op, Prog.bind_ret, Prog.pure_eq_ret]
  iapply (wp_sent_wts R W K c 1) $$ [Hc10 Ha10 HO]
  · unfold due; iframe HK Hc10 Ha10 HO
  iintro ⟨HO, Hz10, HL1⟩
  iapply (wp_sent_cnt R W K c 2) $$ [Hc22 Ha22 HO]
  · unfold due; iframe HK Hc22 Ha22 HO
  iintro ⟨HO, Hz22, Hs3⟩
  rw [wp_ret]; imodintro
  iapply (wp_sent_wts R W K c 2) $$ [Hc20 Ha20 HO]
  · unfold due; iframe HK Hc20 Ha20 HO
  iintro ⟨HO, Hz20, HL2⟩
  iapply (wp_load_o c V) $$ HV; iintro HV
  iapply (wp_store_o c V (res X R W c)) $$ HV; iintro HV
  rw [wp_ret]; imodintro
  iapply Hk
  unfold after settled zeros
  iframe HzB HO HX HR HW HV Hz00 Hz01 Hz02 Hz03 Hz10 Hz11 Hz12 Hz13 Hz20 Hz21 Hz22 Hz23
  ihave HS0 := (shares (F := F) c (wts W c)).2 $$ [HL0 HL1 HL2 HLk]
  · iframe HL0 HL1 HL2 HLk
  iapply (scratch_pieces (F := F) c).2
  unfold piece
  isplitl [HS0 HS1 HS2 HS3]
  · isplitl [HS0]; · iexists _; iexact HS0
    isplitl [HS1]; · iexists _; iexact HS1
    isplitl [HS2]; · iexists _; iexact HS2
    iexists _; iexact HS3
  isplitl [Hs0 Hs1 Hs2 Hs3]
  · isplitl [Hs0]; · iexact Hs0
    isplitl [Hs1]; · iexists _; iexact Hs1
    isplitl [Hs2]; · iexists _; iexact Hs2
    iexists _; iexact Hs3
  isplitl [Ht0]; · iexact Ht0
  isplitl [Ht1]; · iexists _; iexact Ht1
  isplitl [Ht2]; · iexists _; iexact Ht2
  iexists _; iexact Ht3

end Cert.KernelIdeal.Wire
-- ==== Proof.Deal.lean ====
/-
# What the devices are dealt before they start

At launch every cell is opened at round 0, its invariant is allocated, its duty tokens are minted, and each device is dealt
the tokens of the duties it pays and the credits of the waits it makes.
-/
module

public import proofs.«01_k».proof.Proof.Protocol
public import Idealize.ShloMosaic.Lib.Pipeline.Launch
public import Idealize.ShloMosaic.Lib.Pipeline.Kit

@[expose] public section

set_option maxRecDepth 16384

noncomputable section

namespace Cert.KernelIdeal.Wire

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (R : Dev nD → Vec F S1024x1 .i32) (W : Dev nD → Vec F S4x256x512 .bf16)

/-! ## Separating conjunctions over the cells -/

theorem bigSep_shifts (Φ : Fin 3 → sProp 𝕄) : bigSep Finset.univ Φ = iprop(Φ 0 ∗ Φ 1 ∗ Φ 2) :=
  bigSep_univ_eq_bigSepL [0, 1, 2] (by decide) (by decide) Φ
theorem bigSep_kinds (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- A conjunction over one device's cells: the barrier's and, shift by shift, the copies'. -/
theorem bigSep_cells (Φ : Ck → sProp 𝕄) : bigSep Finset.univ Φ
    = iprop(Φ (.inl ()) ∗ bigSep Finset.univ fun k : Fin 3 => bigSep Finset.univ fun a : Fin 4 => Φ (.inr (k, a))) := by
  rw [bigSep_univ_sum, bigSep_univ_of_subsingleton (), bigSep_univ_prod]
  rfl

/-! ## Cells and tokens -/

theorem kcell_inj : Function.Injective (kcell : Dev nD × Ck → GSem nD τ sig) := by
  rintro ⟨c, i⟩ ⟨c', i'⟩ h
  have h₁ : c = c' := congrArg (fun g : GSem nD τ sig => g.1.1) h
  have h₂ : i = i' := csem_inj (congrArg Prod.snd h)
  rw [h₁, h₂]
def wireCells : Finset (GSem nD τ sig) := Finset.univ.map ⟨kcell, kcell_inj⟩

/-- The duties of a device's own cells at shift `k + 1`: duty `k` of the barrier's, and the one duty of each copy's. -/
abbrev duty (p : Fin 3 × Fin 5) : SemLoc sig × Fin 3 := match p.2 with
  | 0 => (.reg barS, p.1) | 1 => (.dma (dsem 0 p.1), 0) | 2 => (.dma (dsem 1 p.1), 0) | 3 => (.dma (dsem 2 p.1), 0) | 4 => (.dma (dsem 3 p.1), 0)
theorem duty_inj : Function.Injective duty := by decide
abbrev tokOf (x : Dev nD × (Fin 3 × Fin 5)) : GSem nD τ sig × ℕ × Fin 3 := (((x.1 : Thread nD τ), (duty x.2).1), 0, (duty x.2).2)
theorem tokOf_inj : Function.Injective (tokOf : Dev nD × (Fin 3 × Fin 5) → GSem nD τ sig × ℕ × Fin 3) := by
  rintro ⟨c, p⟩ ⟨c', p'⟩ h
  have h₁ : c = c' := congrArg (fun g : GSem nD τ sig × ℕ × Fin 3 => g.1.1.1) h
  have h₂ : p = p' := duty_inj (congrArg (fun g : GSem nD τ sig × ℕ × Fin 3 => (g.1.2, g.2.2)) h)
  rw [h₁, h₂]
def wireToks : Finset (GSem nD τ sig × ℕ × Fin 3) := Finset.univ.map ⟨tokOf, tokOf_inj⟩

/-- The duty tokens of device `c`'s own cells at shift `k + 1`, before they are dealt. -/
def ownToks (c : Dev nD) (k : Fin 3) : sProp 𝕄 :=
  iprop(dutyTok ER (barCell c) 0 k ∗ dutyTok ER (xc c k 0) 0 0 ∗ dutyTok ER (xc c k 1) 0 0 ∗ dutyTok ER (xc c k 2) 0 0
    ∗ dutyTok ER (xc c k 3) 0 0)

/-- What funding the cells gives device `c`. -/
def funded (c : Dev nD) : sProp 𝕄 :=
  iprop((bigSep Finset.univ fun i : Ck => roundState ER (Rd R W) (kcell (c, i)) 0)
    ∗ (bigSep Finset.univ fun i : Ck => atPos ER (kcell (c, i)) 0 ∅ 0) ∗ (bigSep Finset.univ fun i : Ck => reached ER (kcell (c, i)) 0)
    ∗ bigSep Finset.univ fun k : Fin 3 => ownToks c k)

theorem fund_cells : BI.own (ER (initOf wireCells wireToks)) ⊢ (|==> bigSep Finset.univ (funded R W) : sProp 𝕄) := by
  have hc (Φ : GSem nD τ sig → sProp 𝕄) : bigSep wireCells Φ = bigSep Finset.univ fun c : Dev nD => bigSep Finset.univ fun i : Ck => Φ (kcell (c, i)) := by
    unfold wireCells; rw [bigSep_map, bigSep_univ_prod]; rfl
  have ht : bigSep wireToks (fun x => (dutyTok ER x.1 x.2.1 x.2.2 : sProp 𝕄)) = bigSep Finset.univ fun c : Dev nD => bigSep Finset.univ fun k : Fin 3 => ownToks c k := by
    unfold wireToks; rw [bigSep_map, bigSep_univ_prod]
    exact bigSep_congr fun c _ => by
      rw [bigSep_univ_prod]
      exact bigSep_congr fun k _ => by unfold ownToks; rw [bigSep_five]; rfl
  iintro H
  imod (Rounds.fund ER (Rd R W) wireCells wireToks) $$ H with ⟨H₁, H₂, H₃, H₄⟩
  imodintro
  ihave H₁ := (Entails.of_eq (hc fun g => roundState ER (Rd R W) g 0)) $$ H₁
  ihave H₂ := (Entails.of_eq (hc fun g => reached ER g 0)) $$ H₂
  ihave H₃ := (Entails.of_eq (hc fun g => atPos ER g 0 ∅ 0)) $$ H₃
  ihave H₄ := (Entails.of_eq ht) $$ H₄
  unfold funded; simp only [bigSep_sep']
  iframe H₁ H₂ H₃ H₄

/-! ## The tokens dealt -/

/-- The tokens go to the devices that pay: a barrier's and the receive cells' to the device `k + 1` places back. -/
theorem deal (k : Fin 3) : (bigSep Finset.univ fun c : Dev nD => (ownToks c k : sProp 𝕄)) ⊢ bigSep Finset.univ fun c : Dev nD => payToks c k := by
  unfold ownToks payToks
  simp only [bigSep_sep']
  rw [bigSep_univ_equiv (turn k) (fun c : Dev nD => (dutyTok ER (barCell c) 0 k : sProp 𝕄)),
    bigSep_univ_equiv (turn k) (fun c : Dev nD => (dutyTok ER (xc c k 1) 0 0 : sProp 𝕄)),
    bigSep_univ_equiv (turn k) (fun c : Dev nD => (dutyTok ER (xc c k 3) 0 0 : sProp 𝕄))]
  iintro ⟨H₁, H₂, H₃, H₄, H₅⟩
  isplitl [H₁]; · iexact H₁
  isplitl [H₃]; · iexact H₃
  isplitl [H₅]; · iexact H₅
  iframe H₂ H₄

/-! ## The semaphores -/

/-- The kernel's own semaphores. -/
abbrev osem (p : Fin 3 × Fin 4) : SemLoc sig := .dma (dsem p.2 p.1)
theorem osem_facts : Pipeline.OwnSemFacts cfg0.spec osem := by decide

theorem unscoped_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun i : Ck => semVal (kcell (c, i)) 0 : sProp 𝕄) := by
  rw [unscoped_eq, bigSep_cells]
  unfold Pipeline.ownSems0
  rw [bigSep_univ_prod]
  iintro ⟨H, HB⟩
  isplitl [HB]; · iexact HB
  iexact H

/-! ## The invariants allocated, for all devices at once -/

/-- Each cell's invariant, under some name, and what goes with it. -/
def opened (c : Dev nD) : sProp 𝕄 :=
  iprop((bigSep Finset.univ fun i : Ck => iprop(∃ κ : ℕ, cellInv ER (Rd R W) κ (kcell (c, i))))
    ∗ (bigSep Finset.univ fun i : Ck => atPos ER (kcell (c, i)) 0 ∅ 0) ∗ (bigSep Finset.univ fun i : Ck => reached ER (kcell (c, i)) 0)
    ∗ bigSep Finset.univ fun k : Fin 3 => ownToks c k)

theorem open_cells (c : Dev nD) :
    iprop(Pipeline.ownSems0 (Ix := Unit) (Name := ℕ) (U := UU) (Lvl := ℕ) (Val := Elt F) (τ := τ) osem c ∗ unscopedSems0 c ∗ funded R W c)
      ⊢ |={Set.univ}=> opened R W c := by
  have h : iprop((bigSep Finset.univ fun i : Ck => semVal (kcell (c, i)) 0) ∗ bigSep Finset.univ fun i : Ck => roundState ER (Rd R W) (kcell (c, i)) 0)
      ⊢ (|={Set.univ}=> bigSep Finset.univ fun i : Ck => iprop(∃ κ : ℕ, cellInv ER (Rd R W) κ (kcell (c, i))) : sProp 𝕄) := by
    rw [← bigSep_sep']
    exact (bigSep_mono fun i _ => (Rounds.body_intro ER (Rd R W) (kcell (c, i))).trans inv_alloc).trans (bigSep_fupd _ _)
  unfold funded opened
  iintro ⟨Ho, Hu, H₁, H₂, H₃, H₄⟩
  ihave Hv := (sems_eq (F := F) c) $$ [Ho Hu]
  · iframe Ho Hu
  imod h $$ [Hv H₁] with H
  · iframe Hv H₁
  imodintro
  iframe H H₂ H₃ H₄

theorem under {I : Type} [DecidableEq I] {S : Finset I} {P : sProp 𝕄} [BI.Persistent P] {Φ Ψ : I → sProp 𝕄}
    (h : ∀ i ∈ S, iprop(P ∗ Φ i) ⊢ Ψ i) : iprop(P ∗ bigSep S Φ) ⊢ bigSep S Ψ :=
  (sep_mono_left (BI.bigSep_of_persistent S P)).trans (by rw [← bigSep_sep']; exact bigSep_mono h)

/-- A device's share of the places and tokens. -/
def share (c : Dev nD) : sProp 𝕄 :=
  iprop((bigSep Finset.univ fun i : Ck => atPos ER (kcell (c, i)) 0 ∅ 0) ∗ bigSep Finset.univ fun k : Fin 3 => payToks c k)

theorem ghost_of (K : Dev nD × Ck → ℕ) (c : Dev nD) : iprop(records R W K ∗ share (F := F) c) ⊢ iprop(∃ K, ghost R W K c) := by
  unfold share ghost places
  rw [bigSep_cells, bigSep_shifts, bigSep_shifts, bigSep_kinds, bigSep_kinds, bigSep_kinds]
  iintro ⟨HR, ⟨HB, H⟩, HT⟩
  iexists K
  isplitl [HR]; · iexact HR
  isplitl [HB]; · iexact HB
  isplitl [H]; · iexact H
  iexact HT

theorem share_out :
    iprop((bigSep Finset.univ fun c : Dev nD => bigSep Finset.univ fun i : Ck => atPos ER (kcell (c, i)) 0 ∅ 0)
        ∗ bigSep Finset.univ fun c : Dev nD => bigSep Finset.univ fun k : Fin 3 => ownToks c k)
      ⊢ (bigSep Finset.univ (share (F := F)) : sProp 𝕄) := by
  have h : (bigSep Finset.univ fun c : Dev nD => bigSep Finset.univ fun k : Fin 3 => (ownToks c k : sProp 𝕄))
      ⊢ bigSep Finset.univ fun c : Dev nD => bigSep Finset.univ fun k : Fin 3 => payToks c k := by
    rw [bigSep_univ_comm, bigSep_univ_comm (fun (c : Dev nD) (k : Fin 3) => (payToks c k : sProp 𝕄))]
    exact bigSep_mono fun k _ => deal k
  unfold share
  simp only [bigSep_sep']
  iintro ⟨H₁, H₂⟩
  ihave H₂ := h $$ H₂
  iframe H₁ H₂

/-- The global step: from every device's semaphores and funds to every device's start. -/
theorem open_all : (bigSep Finset.univ fun c => iprop(Pipeline.ownSems0 (Ix := Unit) (Name := ℕ) (U := UU) (Lvl := ℕ) (Val := Elt F) (τ := τ) osem c ∗ unscopedSems0 c ∗ funded R W c) : sProp 𝕄)
    ⊢ |={Set.univ}=> bigSep Finset.univ fun c => iprop(∃ K, ghost R W K c) := by
  have h : (bigSep Finset.univ (opened R W) : sProp 𝕄) ⊢ bigSep Finset.univ fun c => iprop(∃ K, ghost R W K c) := by
    unfold opened
    simp only [bigSep_sep']
    rw [← bigSep_univ_prod (fun ci : Dev nD × Ck => iprop(∃ κ : ℕ, cellInv ER (Rd R W) κ (kcell ci))),
      ← bigSep_univ_prod (fun ci : Dev nD × Ck => (reached ER (kcell ci) 0 : sProp 𝕄))]
    iintro ⟨HI, HA, HR, HT⟩
    ihave HI := (BI.bigSep_exists_pi Finset.univ (fun (ci : Dev nD × Ck) (κ : ℕ) => (cellInv ER (Rd R W) κ (kcell ci) : sProp 𝕄))) $$ HI
    icases HI with ⟨%K, HI⟩
    ihave HS := (share_out (F := F)) $$ [HA HT]
    · iframe HA HT
    have hu := under (S := Finset.univ) (P := records R W K) (Φ := share (F := F)) fun c _ => ghost_of R W K c
    iapply hu
    isplitl [HI HR]
    · unfold records; isplitl [HI]; · iexact HI
      iexact HR
    iexact HS
  exact ((bigSep_mono fun c _ => open_cells R W c).trans (bigSep_fupd _ _)).trans (BI.fupd_mono h)

/-! ## The credits -/

theorem credits_of_launch (c : Dev nD) : (Pipeline.launchCred O₀ c : sProp 𝕄)
    ⊢ iprop(cred (tallyAt (barCell c) () 3) ∗ credits c 0 ∗ credits c 1 ∗ credits c 2) := by
  have hb (k : Fin 3) := Pipeline.launchCred_tallyAt (Val := Elt F) (Name := ℕ) (U := UU) (Lvl := ℕ) (nD := nD) (τ := τ) (.reg barS : SemLoc sig)
    (fwd k) (bwd k) (fwd_bwd k) (bwd_fwd k) () 1 c
  have hx (k : Fin 3) (a : Fin 4) := Pipeline.launchCred_tallyAt (Val := Elt F) (Name := ℕ) (U := UU) (Lvl := ℕ) (nD := nD) (τ := τ) (.dma (dsem a k) : SemLoc sig)
    (fwd k) (bwd k) (fwd_bwd k) (bwd_fwd k) () (amt a k) c
  have e : O₀ = fun d => 0 + tallyAt (xc (fwd 2 d) 2 1) () (amt 1 2) + tallyAt (xc (fwd 2 d) 2 3) () (amt 3 2)
      + tallyAt (xc (fwd 1 d) 1 1) () (amt 1 1) + tallyAt (xc (fwd 1 d) 1 3) () (amt 3 1)
      + tallyAt (xc (fwd 0 d) 0 1) () (amt 1 0) + tallyAt (xc (fwd 0 d) 0 3) () (amt 3 0)
      + tallyAt (barCell (fwd 2 d)) () 1 + tallyAt (barCell (fwd 1 d)) () 1 + tallyAt (barCell (fwd 0 d)) () 1 := rfl
  rw [e]
  simp only [Pipeline.launchCred_add]
  iintro ⟨⟨⟨⟨⟨⟨⟨⟨⟨-, H21⟩, H23⟩, H11⟩, H13⟩, H01⟩, H03⟩, HB2⟩, HB1⟩, HB0⟩
  unfold credits
  ihave H21 := (hx 2 1) $$ H21
  ihave H23 := (hx 2 3) $$ H23
  ihave H11 := (hx 1 1) $$ H11
  ihave H13 := (hx 1 3) $$ H13
  ihave H01 := (hx 0 1) $$ H01
  ihave H03 := (hx 0 3) $$ H03
  ihave HB2 := (hb 2) $$ HB2
  ihave HB1 := (hb 1) $$ HB1
  ihave HB0 := (hb 0) $$ HB0
  iframe H21 H23 H11 H13 H01 H03
  have e₃ : (tallyAt (barCell c) () 3 : CellTallies nD τ sig Unit)
      = tallyAt (barCell c) () 1 + tallyAt (barCell c) () 1 + tallyAt (barCell c) () 1 := by rw [tallyAt_add, tallyAt_add]
  rw [e₃]
  iapply (cred_add _ _).2
  isplitl [HB2 HB1]
  · iapply (cred_add _ _).2
    iframe HB2 HB1
  iexact HB0

end Cert.KernelIdeal.Wire
-- ==== Proof.Run.lean ====
/-
# The launch of the kernel on the whole mesh

Every device's run is put under the launch: every execution ends, with each device's result array holding what the kernel
computes from the mesh's arguments, the arguments as they were and every semaphore at zero.
-/
module

public import proofs.«01_k».proof.Proof.Body
public import proofs.«01_k».proof.Proof.Deal
public import proofs.«01_k».proof.Proof.Gen.KernelIdeal.Frame
public import Idealize.ShloMosaic.Lib.Pipeline.ValueKit
public import Idealize.ShloMosaic.Lib.Pipeline.CollectiveSegs

@[expose] public section

set_option maxRecDepth 16384

noncomputable section

namespace Cert.KernelIdeal.Wire

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What is staged and what is left -/

/-- The tokens each device stages, -/
def xs (c : Dev nD) : Vec F S1024x256 .bf16 := iblk m c 0 t0_0
/-- the expert each of them asks for, -/
def rs (c : Dev nD) : Vec F S1024x1 .i32 := iblk m c 1 t0_0
/-- and the weights of the device's experts. -/
def ws (c : Dev nD) : Vec F S4x256x512 .bf16 := iblk m c 2 t0_0

/-- The launch's data: the arrays as they are found, what the body leaves in each staging buffer, what it holds before and
after, and what it owes. -/
def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => rs m c
    | ⟨2, _⟩ => ws m c
    | ⟨3, _⟩ => res (xs m) (rs m) (ws m) c
  Φ t := match t with
    | ⟨0, _⟩ => iprop(start (rs m) (ws m) c ∗ scratch c)
    | ⟨_ + 1, _⟩ => settled c
  q _ := fullShare
  owed t := match t with
    | ⟨0, _⟩ => O₀ c
    | ⟨_ + 1, _⟩ => 0

theorem before_0 (c : Dev nD) (d) : (dats m 0 c).before 0 t0_0 d = xs m c := by
  unfold Dat.before; rw [if_pos (fetch0_0 t0_0)]; rfl
theorem before_1 (c : Dev nD) (d) : (dats m 0 c).before 1 t0_0 d = rs m c := by
  unfold Dat.before; rw [if_pos (fetch0_1 t0_0)]; rfl
theorem before_2 (c : Dev nD) (d) : (dats m 0 c).before 2 t0_0 d = ws m c := by
  unfold Dat.before; rw [if_pos (fetch0_2 t0_0)]; rfl

/-! ## The body under the launch -/

/-- A staging buffer of device `c`, whole, at contents stated as equal to `V`. -/
def staged (c : Dev nD) (b : Ref sig .tc) (V : Buf (Elt F) ((c : Thread nD τ).loc b)) : sProp 𝕄 :=
  iprop(∃ f : Buf (Elt F) ((c : Thread nD τ).loc b), ⌜f = V⌝ ∗ ((c : Thread nD τ).loc b) ↦{fullShare} f)

theorem staged_held (c : Dev nD) (b : Ref sig .tc) (V : Buf (Elt F) ((c : Thread nD τ).loc b)) : (staged c b V : sProp 𝕄) ⊣⊢ held c b V := by
  unfold staged held
  constructor
  · iintro ⟨%f, %h, H⟩; rw [← h]; iexact H
  · iintro H; iexists V; isplitr; · (ipureintro; rfl)
    iexact H

def given (c : Dev nD) : sProp 𝕄 :=
  iprop((start (rs m) (ws m) c ∗ scratch c) ∗ (dats m 0 c).owesAt () t0_0.castSucc
    ∗ (∃ d, staged c cc0_stg0_0 ((dats m 0 c).before 0 t0_0 d)) ∗ (∃ d, staged c cc0_stg1_0 ((dats m 0 c).before 1 t0_0 d))
    ∗ (∃ d, staged c cc0_stg2_0 ((dats m 0 c).before 2 t0_0 d)) ∗ (∃ d, staged c cc0_stg3_0 ((dats m 0 c).before 3 t0_0 d)))
def left (c : Dev nD) : sProp 𝕄 :=
  iprop(settled (F := F) c ∗ (dats m 0 c).owesAt () t0_0.succ
    ∗ staged c cc0_stg0_0 (xs m c) ∗ staged c cc0_stg1_0 (rs m c) ∗ staged c cc0_stg2_0 (ws m c) ∗ staged c cc0_stg3_0 (res (xs m) (rs m) (ws m) c))

theorem given_before (c : Dev nD) : (given m c : sProp 𝕄) ⊢ iprop(∃ K, before (xs m) (rs m) (ws m) K c) := by
  unfold given start before
  iintro ⟨⟨⟨⟨%K, Hg⟩, Hb, Hc, Hl⟩, Hs⟩, ⟨%Wt, -, Ho⟩, ⟨%d₀, H₀⟩, ⟨%d₁, H₁⟩, ⟨%d₂, H₂⟩, %d₃, H₃⟩
  rw [before_0, before_1, before_2]
  ihave H₀ := (staged_held c _ _).1 $$ H₀
  ihave H₁ := (staged_held c _ _).1 $$ H₁
  ihave H₂ := (staged_held c _ _).1 $$ H₂
  ihave H₃ := (staged_held c _ _).1 $$ H₃
  iexists K
  isplitl [Hg Hb Hc Hl]
  · iframe Hg Hb Hc Hl
  isplitl [Hs]; · iexact Hs
  isplitl [Ho]
  · unfold owing; iexists Wt; iexact Ho
  iframe H₀ H₁ H₂
  iexists _; iexact H₃

theorem after_left (c : Dev nD) : (after (xs m) (rs m) (ws m) c : sProp 𝕄) ⊢ left m c := by
  unfold after left owing
  iintro ⟨Hs, ⟨%Wt, Ho⟩, H₀, H₁, H₂, H₃⟩
  ihave H₀ := (staged_held c _ _).2 $$ H₀
  ihave H₁ := (staged_held c _ _).2 $$ H₁
  ihave H₂ := (staged_held c _ _).2 $$ H₂
  ihave H₃ := (staged_held c _ _).2 $$ H₃
  isplitl [Hs]; · iexact Hs
  isplitl [Ho]
  · iexists Wt
    isplitr; · ipureintro; exact fun _ _ => Or.inl trivial
    iexact Ho
  iframe H₀ H₁ H₂ H₃

/-- The launch's obligation on the body. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show given m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => left m c)
  iintro H
  ihave H := (given_before m c) $$ H
  icases H with ⟨%K, H⟩
  iapply (run_body (xs m) (rs m) (ws m) K c (Q := fun _ => left m c))
  isplitl [H]; · iexact H
  iintro H
  iapply (after_left m c)
  iexact H

/-! ## The launch's side conditions -/

theorem share_full (c : Dev nD) (w : Fin cfg0.W) : (dats m 0 c).share w = fullShare := by unfold Dat.share; split <;> rfl

theorem stage_low (c : Dev nD) (w : Fin cfg0.W) (s : Fin (cfg0.win w).nbuf) : lv ((c : Thread nD τ), .dma ((cfg0.win w).sem s)) () < 1 := by
  fin_cases w <;> fin_cases s <;> revert c <;> decide

theorem stage_waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_above (n := 1) c _ (stage_low c w s) (above_O₀ c)
    · exact mayWait_above (n := 1) c _ (stage_low c w s) (above_zero 1)

def u₀ : UU := (initOf (Pipeline.cells cfgs cellOf_inj) (Pipeline.launchToks cfgs cellOf_inj), initOf wireCells wireToks)

/-- What the launch leaves with device `c` beside the windows: its argument that no window stages. -/
abbrev kept₀ (c : Dev nD) : sProp 𝕄 :=
  Pipeline.unscopedRestP Pipeline.Prefetch.none cfg0.spec c (fun b => m ((c : Thread nD τ).loc b))

theorem enter (c : Dev nD) :
    iprop(kept₀ m c ∗ levAts L lv ∗ Pipeline.launchCred O₀ c ∗ prngReg c (ρ c) ∗ (∃ K, ghost (rs m) (ws m) K c))
      ⊢ |={Set.univ}=> iprop(start (rs m) (ws m) c ∗ kept₀ m c) := by
  iintro ⟨Hk, Hl, Hc, -, Hg⟩
  ihave Hc := (credits_of_launch (F := F) c) $$ Hc
  icases Hc with ⟨Hb, Hc⟩
  imodintro
  isplitr [Hk]
  · unfold start
    iframe Hg Hb Hc Hl
  iexact Hk

theorem enter_body (c : Dev nD) :
    iprop(start (rs m) (ws m) c ∗ Pipeline.prefHeld Pipeline.Prefetch.none c (fun _ => fullShare.right) (fun k => k.elim0)
        ∗ Pipeline.scopedRest cfg0.spec c)
      ⊢ (dats m 0 c).Φ 0 := by
  rw [show (dats m 0 c).Φ 0 = iprop(start (rs m) (ws m) c ∗ scratch c) from rfl, scopedRest0_eq]
  unfold scratch
  iintro ⟨Hs, -, Hr⟩
  isplitl [Hs]; · iexact Hs
  iexact Hr

theorem leave_body (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = settled c from rfl, scopedRest0_eq, unscoped_eq]
  unfold settled scratch Pipeline.ownSems0 zeros
  rw [bigSep_univ_prod, bigSep_shifts, bigSep_kinds, bigSep_kinds, bigSep_kinds]
  iintro ⟨Hr, Hz, Hb⟩
  isplitl [Hb]; · iexact Hb
  isplitl [Hz]; · iexact Hz
  iexact Hr

/-! ## The run -/

/-- What a final state holds at device `c` beside the windows' arrays. -/
def Beside (c : Dev nD) (s : MemSt nD τ sig (Elt F)) : Prop :=
  (∀ b ∈ Pipeline.restRefsP sig Pipeline.Prefetch.none cfg0.spec, s.mem ((c : Thread nD τ).loc b) = m ((c : Thread nD τ).loc b))
    ∧ ∀ sm : SemLoc sig, sm.isScoped .tc = false → s.sem ((c : Thread nD τ), sm) = 0

theorem read_beside (c : Dev nD) (s' : Phys nD τ sig (Elt F)) :
    iprop(unscopedSems0 c ∗ kept₀ m c ∗ SI s') ⊢ (|={Set.univ}=> iprop(⌜Beside m c s'.mem⌝ ∗ SI s') : sProp 𝕄) := by
  iintro ⟨Hu, Hk, HSI⟩
  have hk : iprop(kept₀ m c ∗ SI s') ⊢ (iprop(⌜∀ b ∈ Pipeline.restRefsP sig Pipeline.Prefetch.none cfg0.spec,
      s'.mem.mem ((c : Thread nD τ).loc b) = m ((c : Thread nD τ).loc b)⌝ ∗ SI s') : sProp 𝕄) :=
    pointsTo_read_all _ (fun b => (c : Thread nD τ).loc b) (fun b => m ((c : Thread nD τ).loc b)) s'
  ihave H := hk $$ [Hk HSI]
  · iframe Hk HSI
  icases H with ⟨%h, HSI⟩
  imod (Pipeline.unscopedSems0_read (X := unscopedSems0 c) (c := c) fupd_intro s') $$ [Hu HSI] with ⟨%h', HSI⟩
  · iframe Hu HSI
  imodintro
  isplitr
  · ipureintro; exact ⟨h, h'⟩
  iexact HSI

/-- What a final state holds: each window's array as the launch's data say, what is beside them, all counters at zero. -/
def Ended (r : PUnit × MemSt nD τ sig (Elt F)) : Prop :=
  (∀ c : Dev nD, (∀ w : Fin cfg0.W, r.2.mem ((cfg0.win w).arr.view.loc (c : Thread nD τ)) = (dats m 0 c).arrAt w cfg0.N) ∧ Beside m c r.2)
    ∧ r.2.sem = fun _ => 0

set_option maxRecDepth 16384 in
/-- Every execution of the four devices ends in such a state. -/
theorem run_ends : θ_run defs (onTc (τ := τ) (main (F := F))) ⟨m, fun _ => 0, ρ⟩ (Ended m) :=
  Pipeline.θ_run_region_owing_glob_pf (fun p => (cfgs p).toPCfg) (fun p => (cfgs p).toPCfg_adm) (dats m) () cellOf_inj (0 : Fin 1)
    winFacts0.to₀ osem_facts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_full m) (hdistinct := winFacts0.arr_inj)
    (O₀ := O₀) (howed₀ := fun _ => rfl) (howedN := fun _ => rfl)
    (L := L) (lv := lv) (hL := L_of_ne) (hwaits := stage_waits m)
    (G := funded (rs m) (ws m)) (G' := fun c => iprop(∃ K, ghost (rs m) (ws m) K c)) (u₀ := u₀)
    (hu₀ := by
      unfold u₀
      iintro H
      ihave H := (ownU_pair _ _) $$ H
      icases H with ⟨HP, HX⟩
      imod (fund_cells (rs m) (ws m)) $$ HX with HG
      imodintro
      isplitl [HP] <;> iassumption)
    (hglob := open_all (rs m) (ws m))
    (hA := fun _ _ => rfl) (hpf := fun _ k => k.elim0)
    (X := start (rs m) (ws m)) (Y := fun c => unscopedSems0 c) (Z := kept₀ m)
    (hX := enter m ρ) (hin := enter_body m) (hout := leave_body m)
    (QY := Beside m) (hY := read_beside m)
    (hQ := fun _ h hs => ⟨fun c => ⟨(h c).1, (h c).2.2⟩, sem_eq_zero hs fun c => (h c).2.2.2⟩)

/-! ## What the run leaves, in plain terms -/

/-- The result's array ends with what the kernel stored. -/
theorem result_array (c : Dev nD) : (dats m 0 c).arrAt (3 : Fin 4) cfg0.N = res (xs m) (rs m) (ws m) c := by
  refine (dats m 0 c).arrAt_eq_of_after_last (3 : Fin 4) t0_0 (by decide +kernel) _ fun j => ?_
  blk_simp
  rfl

theorem arg1_beside : main_arg1 ∈ Pipeline.restRefsP sig Pipeline.Prefetch.none cfg0.spec :=
  Finset.mem_sdiff.mpr ⟨Pipeline.mem_restRefs_of main_arg1 (by decide) (by decide), fun h => (Finset.mem_image.mp h).elim fun k _ => k.elim0⟩

/-- Every execution ends with each device's result computed, its arguments as they were and every counter at zero. -/
theorem run_main : θ_run defs (onTc (τ := τ) (main (F := F))) ⟨m, fun _ => 0, ρ⟩ (fun r => (∀ c : Dev nD,
    r.2.mem ((c : Thread nD τ).loc main_v1) = res (xs m) (rs m) (ws m) c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3))
    ∧ r.2.sem = fun _ => 0) :=
  (θ_run defs _ _).mono (fun r h => ⟨fun c => ⟨((h.1 c).1 3).trans (result_array m c),
    ((h.1 c).1 0).trans ((dats m 0 c).arrAt_in (0 : Fin 4) rfl _),
    (h.1 c).2.1 main_arg1 arg1_beside,
    ((h.1 c).1 1).trans ((dats m 0 c).arrAt_in (1 : Fin 4) rfl _),
    ((h.1 c).1 2).trans ((dats m 0 c).arrAt_in (2 : Fin 4) rfl _)⟩, h.2⟩) (run_ends m ρ)

end Cert.KernelIdeal.Wire
-- ==== Proof.Requests.lean ====
/-
# Requests for experts

Every token asks for one expert by a word.  This module counts requests: one at a time, those before a given token of the
whole batch, and the same count split by the four devices the batch is divided over.
-/
module

public import Idealize.ShloMosaic.Lib.Pointwise

@[expose] public section

namespace Cert.Requests

open Idealize.ShloMosaic

/-- The word an expert is asked for by. -/
def word (e : Fin 16) : BitVec 32 := BitVec.ofNat 32 e.val

/-- One if the word `v` asks for expert `e`, zero otherwise. -/
def ask (v : BitVec 32) (e : Fin 16) : ℕ := if v = word e then 1 else 0

theorem ask_le (v : BitVec 32) (e : Fin 16) : ask v e ≤ 1 := by unfold ask; split <;> decide

/-! ## Sums over tokens -/

/-- A sum over the tokens below `t`, as a sum over all of them. -/
theorem sum_below (g : ℕ → ℕ) (t : Fin 1024) : (∑ s : Fin 1024, if s.val < t.val then g s.val else 0) = ∑ s ∈ Finset.range t.val, g s := by
  rw [Fin.sum_univ_eq_sum_range (fun s => if s < t.val then g s else 0) 1024, ← Finset.sum_filter]
  refine Finset.sum_congr (Finset.ext fun s => ?_) fun _ _ => rfl
  have := t.isLt
  simp only [Finset.mem_filter, Finset.mem_range]
  omega

/-- A sum over `n` blocks of 1024, block by block. -/
theorem sum_blocks (g : ℕ → ℕ) (n : ℕ) :
    ∑ k ∈ Finset.range (n * 1024), g k = ∑ d ∈ Finset.range n, ∑ s ∈ Finset.range 1024, g (d * 1024 + s) := by
  induction n with
  | zero => simp
  | succ n ih => rw [Nat.succ_mul, Finset.sum_range_add, ih]; exact (Finset.sum_range_succ _ n).symm

/-- A sum over the devices below `c`, as a sum over all four. -/
theorem sum_devices (T : ℕ → ℕ) (c : Fin 4) : (∑ d : Fin 4, if d.val < c.val then T d.val else 0) = ∑ d ∈ Finset.range c.val, T d := by
  rw [Fin.sum_univ_eq_sum_range (fun d => if d < c.val then T d else 0) 4, ← Finset.sum_filter]
  refine Finset.sum_congr (Finset.ext fun s => ?_) fun _ _ => rfl
  have := c.isLt
  simp only [Finset.mem_filter, Finset.mem_range]
  omega

/-- What comes before token `t` of block `c`: the blocks before it, and the block's own tokens before it. -/
theorem sum_before (g : ℕ → ℕ) (c : Fin 4) (t : Fin 1024) :
    (∑ d : Fin 4, if d.val < c.val then ∑ s : Fin 1024, g (d.val * 1024 + s.val) else 0)
        + (∑ s : Fin 1024, if s.val < t.val then g (c.val * 1024 + s.val) else 0)
      = ∑ k ∈ Finset.range (c.val * 1024 + t.val), g k := by
  rw [Finset.sum_range_add, sum_blocks, sum_below (fun s => g (c.val * 1024 + s)),
    ← sum_devices (fun d => ∑ s ∈ Finset.range 1024, g (d * 1024 + s))]
  refine congrArg (· + _) (Finset.sum_congr rfl fun d _ => ?_)
  rw [Fin.sum_univ_eq_sum_range (fun s => g (d.val * 1024 + s)) 1024]

/-! ## The whole batch -/

variable (G : IVec ⟨2, ![4096, 1]⟩ 32)

/-- One if token `k` of the batch asks for expert number `e`, zero otherwise (and where there is no token `k`). -/
def asksAt (k e : ℕ) : ℕ := if h : k < 4096 then (if G (ix2 ⟨k, h⟩ 0) = BitVec.ofNat 32 e then 1 else 0) else 0

theorem asksAt_eq (i : Fin 4096) (e : Fin 16) : asksAt G i.val e.val = ask (G (ix2 i 0)) e := by
  unfold asksAt
  rw [dif_pos i.isLt]; rfl

theorem asksAt_le (k e : ℕ) : asksAt G k e ≤ 1 := by
  unfold asksAt; split
  · split <;> decide
  · decide

/-- The requests for expert number `e` before token `k` of the batch. -/
def asksBefore (k e : ℕ) : ℕ := ∑ i ∈ Finset.range k, asksAt G i e

theorem asksBefore_succ (k e : ℕ) : asksBefore G (k + 1) e = asksBefore G k e + asksAt G k e := Finset.sum_range_succ _ _

theorem asksBefore_le (k e : ℕ) : asksBefore G k e ≤ k := by
  induction k with
  | zero => exact le_rfl
  | succ k ih => rw [asksBefore_succ]; have := asksAt_le G k e; omega

/-- Token `i` of the batch is served by expert `e` if it asks for it while fewer than 204 have done so. -/
noncomputable def servedAt (i : Fin 4096) (e : Fin 16) : EReal := if G (ix2 i 0) = word e ∧ asksBefore G i.val e.val < 204 then 1 else 0

end Cert.Requests
-- ==== Proof.Counts.lean ====
/-
# Counting requests

What the kernel's counts, one-hot rows, running counts and served masks hold at the extended reals.  Column `j` of device
`q`'s sixteen stands for the expert `expertAt q j`; every number in these arrays is a count of tokens asking for an expert,
so each is stated as the natural number it is.
-/
module

public import proofs.«01_k».proof.Proof.Contents
public import proofs.«01_k».proof.Proof.Requests
public import Idealize.ShloMosaic.Lib.Pointwise

@[expose] public section

set_option maxRecDepth 16384

noncomputable section

namespace Cert.KernelIdeal.Wire

open Cert.KernelIdeal Cert.KernelIdeal.Gen Cert.Requests
open Idealize.ShloMosaic

/-! ## The experts behind the columns -/

set_option backward.proofsInPublic true in
/-- The expert column `j` stands for on device `q`: the device's own four first, then those of the device before it, and
so on round the ring. -/
def expertAt (q : Fin 4) (j : Fin 16) : Fin 16 := ⟨(q.val + 4 - j.val / 4) % 4 * 4 + j.val % 4, by omega⟩

/-- Each expert has exactly one column. -/
theorem expertAt_bijective (q : Fin 4) : Function.Bijective (expertAt q) := by
  revert q; decide

/-! ## One request -/

/-- A comparison turned into a float is the number of requests it counts. -/
theorem float_ask (v w : BitVec 32) (e : Fin 16) (h : w = word e) :
    (FloatOps.sitofp .f32 (BitVec.setWidth 32 (IntOp.cmpi .eq v w)) : Ideal .f32) = ((ask v e : ℕ) : EReal) := by
  subst h
  refine (Ideal.scalar_sitofp_def (φ := .f32) _).trans ?_
  unfold ask IntOp.cmpi
  by_cases h : v = word e
  · rw [if_pos h, show (v == word e) = true from beq_iff_eq.2 h]; simp
  · rw [if_neg h, show (v == word e) = false from beq_eq_false_iff_ne.2 h]; simp

variable (R : Dev nD → Vec Ideal S1024x1 .i32)

/-- The one-hot rows. -/
theorem oneHot_apply (c : Dev nD) (t : Fin 1024) (j : Fin 16) :
    oneHot R c (ix2 t j) = ((ask (R c (ix2 t 0)) (expertAt c j) : ℕ) : EReal) := by
  unfold oneHot
  pointwise [k0_pay16, k0_pay17, k0_pay18, k0_pay19, k0_pay20]
  refine float_ask _ _ _ ?_
  revert c j; decide +kernel

/-- The counts sent `k + 1` places on. -/
theorem cnt_apply (c : Dev nD) (k : Fin 3) (j : Fin 16) :
    cnt R c k (ix3 0 0 j) = ((∑ t : Fin 1024, ask (R c (ix2 t 0)) (expertAt (fwd k c) j) : ℕ) : EReal) := by
  rw [Nat.cast_sum]
  fin_cases k <;> unfold cnt <;> unfold_payloads <;> pointwise [] <;>
    (refine Finset.sum_congr rfl fun t _ => float_ask _ _ _ ?_; revert c j; decide +kernel)

/-! ## Requests made earlier -/

/-- The requests for expert `e` made on device `c` before token `t`. -/
def within (c : Dev nD) (t : Fin 1024) (e : Fin 16) : ℕ := ∑ s : Fin 1024, if s.val < t.val then ask (R c (ix2 s 0)) e else 0
/-- All the requests for expert `e` made on device `c`. -/
def total (c : Dev nD) (e : Fin 16) : ℕ := ∑ s : Fin 1024, ask (R c (ix2 s 0)) e
/-- The requests for expert `e` made before token `t` of device `c`: those of the devices before it, then its own. -/
def earlier (c : Dev nD) (t : Fin 1024) (e : Fin 16) : ℕ :=
  (∑ d : Dev nD, if d.val < c.val then total R d e else 0) + within R c t e

/-- One row of the triangle times one entry: counted if it lies below, nothing otherwise. -/
theorem triangle (s t : Fin 1024) (n : ℕ) :
    (FloatOps.sitofp .f32 (BitVec.setWidth 32 (IntOp.cmpi .slt (BitVec.ofNat 32 s.val) (BitVec.ofNat 32 t.val))) : Ideal .f32) * (n : EReal)
      = ((if s.val < t.val then n else 0 : ℕ) : EReal) := by
  have hs : (BitVec.ofNat 32 s.val).toInt = s.val := by
    have := s.isLt
    simp only [BitVec.toInt_eq_toNat_cond, BitVec.toNat_ofNat]; omega
  have ht : (BitVec.ofNat 32 t.val).toInt = t.val := by
    have := t.isLt
    simp only [BitVec.toInt_eq_toNat_cond, BitVec.toNat_ofNat]; omega
  have h : (BitVec.ofNat 32 s.val).slt (BitVec.ofNat 32 t.val) = decide (s.val < t.val) := by
    rw [BitVec.slt, hs, ht]; exact decide_eq_decide.2 Int.ofNat_lt
  refine (congrArg (· * (n : EReal)) (Ideal.scalar_sitofp_def (φ := .f32) _)).trans ?_
  unfold IntOp.cmpi
  dsimp only
  rw [h]
  by_cases h : s.val < t.val <;> simp [h]

/-- The running counts. -/
theorem rank_apply (c : Dev nD) (t : Fin 1024) (j : Fin 16) :
    rank R c (ix2 t j) = ((within R c t (expertAt c j) : ℕ) : EReal) := by
  unfold rank within
  rw [Nat.cast_sum]
  unfold_payloads
  pointwise [oneHot_apply]
  exact Finset.sum_congr rfl fun s _ => triangle s t _

/-- A count that came from `k + 1` places before is the total of that device, for the receiver's own columns. -/
theorem cnt_received (c : Dev nD) (k : Fin 3) (j : Fin 16) :
    cnt R (bwd k c) k (ix3 0 0 j) = ((total R (bwd k c) (expertAt c j) : ℕ) : EReal) := by
  rw [cnt_apply, fwd_bwd]; rfl

/-- The counts of the devices before this one, as the kernel selects and adds them. -/
theorem select_before (c : Dev nD) (n : Dev nD → ℕ) :
    Scalar.select (Scalar.cmpi .sge (pos c) 1#32) ((n (bwd 0 c) : ℕ) : EReal) 0
        + Scalar.select (Scalar.cmpi .sge (pos c) 2#32) ((n (bwd 1 c) : ℕ) : EReal) 0
        + Scalar.select (Scalar.cmpi .sge (pos c) 3#32) ((n (bwd 2 c) : ℕ) : EReal) 0
      = ((∑ d : Dev nD, if d.val < c.val then n d else 0 : ℕ) : EReal) := by
  have e1 : Scalar.cmpi .sge (pos c) 1#32 = if 1 ≤ c.val then 1 else 0 := by revert c; decide
  have e2 : Scalar.cmpi .sge (pos c) 2#32 = if 2 ≤ c.val then 1 else 0 := by revert c; decide
  have e3 : Scalar.cmpi .sge (pos c) 3#32 = if 3 ≤ c.val then 1 else 0 := by revert c; decide
  rw [e1, e2, e3, show (∑ d : Dev nD, if d.val < c.val then n d else 0) = ∑ d : Fin 4, if d.val < c.val then n d else 0 from rfl,
    Fin.sum_univ_four]
  unfold Scalar.select
  fin_cases c
  · simp
  · simp [bwd]
  · simp [bwd]
    exact add_comm _ _
  · simp [bwd]
    exact (add_comm _ _).trans ((congrArg (_ + ·) (add_comm _ _)).trans (add_assoc _ _ _).symm)

/-- The pattern the kernel compares with is the capacity. -/
theorem capacity : Ideal.ofBits .f32 0x434C0000#32 = ((204 : ℕ) : EReal) := by
  rw [show ((204 : ℕ) : EReal) = ((204 : ℝ) : EReal) by norm_cast]
  simp [Ideal.ofBits, Ideal.ieee, -EReal.coe_mul]; norm_num

/-! ## Who is served -/

/-- One if token `t` of device `c` asks for expert `e` while fewer than 204 have done so, zero otherwise. -/
def served (c : Dev nD) (t : Fin 1024) (e : Fin 16) : EReal := if R c (ix2 t 0) = word e ∧ earlier R c t e < 204 then 1 else 0

/-- A decided proposition turned into a float. -/
theorem float_decide (P : Prop) [Decidable P] :
    (FloatOps.sitofp .f32 (BitVec.setWidth 32 (BitVec.ofBool (decide P))) : Ideal .f32) = if P then (1 : EReal) else 0 := by
  refine (Ideal.scalar_sitofp_def (φ := .f32) _).trans ?_
  by_cases h : P <;> simp [h]

/-- A request times the test of its rank. -/
theorem mask_one (v : BitVec 32) (e : Fin 16) (n : ℕ) :
    ((ask v e : ℕ) : EReal) * (if ((n : ℕ) : EReal) < ((204 : ℕ) : EReal) then 1 else 0) = if v = word e ∧ n < 204 then 1 else 0 := by
  have hn : (((n : ℕ) : EReal) < ((204 : ℕ) : EReal)) ↔ n < 204 := by norm_cast
  rw [if_congr hn rfl rfl]
  unfold ask
  by_cases h : v = word e <;> by_cases h' : n < 204 <;> simp [h, h']

/-- The served mask. -/
theorem keep_apply (c : Dev nD) (t : Fin 1024) (j : Fin 16) : keep R c (ix2 t j) = served R c t (expertAt c j) := by
  unfold keep
  unfold_payloads
  pointwise [oneHot_apply, rank_apply, cnt_received]
  have hs := select_before c fun d => total R d (expertAt c j)
  rw [hs, capacity, add_comm, ← Nat.cast_add, float_decide]
  exact mask_one _ _ _

end Cert.KernelIdeal.Wire
-- ==== Proof.Result.lean ====
/-
# What the kernel computes

An element of the kernel's result as one sum over all sixteen experts: the served mask times the token's product with the
expert's matrix.  The kernel adds the sixteen products in the order in which the matrices reach the device; since every
expert has one column, the order of the experts gives the same sum.
-/
module

public import proofs.«01_k».proof.Proof.Counts

@[expose] public section

set_option maxRecDepth 16384

noncomputable section

namespace Cert.KernelIdeal.Wire

open Cert.KernelIdeal Cert.KernelIdeal.Gen Cert.Requests
open Idealize.ShloMosaic

variable (X : Dev nD → Vec Ideal S1024x256 .bf16) (R : Dev nD → Vec Ideal S1024x1 .i32) (W : Dev nD → Vec Ideal S4x256x512 .bf16)

/-! ## The pieces at an element -/

theorem tok_apply (c : Dev nD) (t : Fin 1024) (d : Fin 256) : tok X c (ix2 t d) = X c (ix2 t d) := by
  unfold tok k0_pay22
  pointwise []

theorem mat_apply (c : Dev nD) (l : Fin 4) (d : Fin 256) (f : Fin 512) : mat W c l (ix4 0 0 d f) = W c (ix3 l d f) := by
  unfold mat wts k0_pay1
  have h : inSlot l (ix4 (0 : Fin 1) (0 : Fin 1) d f) = ix4 (0 : Fin 1) l d f := by
    funext a; match a with
    | ⟨0, _⟩ => rfl
    | ⟨1, _⟩ => rfl
    | ⟨2, _⟩ => rfl
    | ⟨3, _⟩ => rfl
  rw [h]
  pointwise []

/-- The tokens under the first column of the mask. -/
theorem first_apply (c : Dev nD) (t : Fin 1024) (d : Fin 256) :
    k0_pay25 (pos c) (oneHot R c) (rank R c) (tok X c) (cnt R (bwd 0 c) 0) (cnt R (bwd 1 c) 1) (cnt R (bwd 2 c) 2) (ix2 t d)
      = tok X c (ix2 t d) * keep R c (ix2 t 0) := by
  unfold k0_pay25
  have h : k0_pay23 (pos c) (oneHot R c) (rank R c) (cnt R (bwd 0 c) 0) (cnt R (bwd 1 c) 1) (cnt R (bwd 2 c) 2) = keep R c := rfl
  rw [h]
  pointwise []

/-! ## The experts' matrices -/

set_option backward.proofsInPublic true in
/-- Element `(d, f)` of expert `e`'s matrix, on the device that owns it. -/
def weight (e : Fin 16) (d : Fin 256) (f : Fin 512) : EReal := W ⟨e.val / 4, by have := e.isLt; show _ < 4; omega⟩ (ix3 ⟨e.val % 4, by omega⟩ d f)

/-- A sum over sixteen terms, written out from the left. -/
theorem sum_sixteen (G : Fin 16 → EReal) :
    ∑ j, G j = G 0 + G 1 + G 2 + G 3 + G 4 + G 5 + G 6 + G 7 + G 8 + G 9 + G 10 + G 11 + G 12 + G 13 + G 14 + G 15 := by
  simp only [Fin.sum_univ_castSucc, Fin.sum_univ_zero, zero_add]; rfl

/-- The result as the kernel adds it up, column by column. -/
theorem res_columns (c : Dev nD) (t : Fin 1024) (f : Fin 512) :
    res X R W c (ix2 t f) = ∑ j : Fin 16, ∑ d : Fin 256, X c (ix2 t d) * keep R c (ix2 t j) * weight W (expertAt c j) d f := by
  rw [sum_sixteen]
  unfold res acc3 acc2 last2 acc1 acc0
  pointwise [k0_pay24, k0_pay26, k0_pay27, k0_pay28, k0_pay29, k0_pay30, k0_pay31, k0_pay32, first_apply, tok_apply, mat_apply]
  generalize keep R c = K
  fin_cases c <;> rfl

/-- A mask of zero or one comes out of the product it multiplies. -/
theorem masked_sum (P : Prop) [Decidable P] {n : ℕ} (x w : Fin n → EReal) :
    ∑ d, x d * (if P then 1 else 0) * w d = (if P then 1 else 0) * ∑ d, x d * w d := by
  by_cases h : P <;> simp [h]

/-- The result, expert by expert. -/
theorem res_apply (c : Dev nD) (t : Fin 1024) (f : Fin 512) :
    res X R W c (ix2 t f) = ∑ e : Fin 16, served R c t e * ∑ d : Fin 256, X c (ix2 t d) * weight W e d f := by
  rw [res_columns, ← (expertAt_bijective c).sum_comp fun e => served R c t e * ∑ d : Fin 256, X c (ix2 t d) * weight W e d f]
  refine Finset.sum_congr rfl fun j _ => ?_
  rw [keep_apply]
  exact masked_sum _ _ _

end Cert.KernelIdeal.Wire
-- ==== Proof.Value.lean ====
/-
# What the reference computes

The reference's result, element by element: the served mask, by the running counts of requests, times the token's product
with the expert's matrix, summed over the experts.
-/
module

public import proofs.«01_k».proof.Proof.Gen.ReferenceIdeal.Run
public import proofs.«01_k».proof.Proof.Requests
public import Idealize.ShloMosaic.Lib.Pointwise
public import Idealize.ShloMosaic.Lib.Pointwise.IndexBridge
public import Idealize.ShloMosaic.Lib.Routing.OpsOne

@[expose] public section

set_option maxRecDepth 16384

noncomputable section

namespace Cert.ReferenceIdeal.Whole

open Cert.ReferenceIdeal Cert.ReferenceIdeal.Gen Cert.Requests
open Idealize.ShloMosaic

variable (X : FVec Ideal S4096x256 .bf16) (R : IVec S4096x1 32) (W : FVec Ideal S16x256x512 .bf16)

/-- Which token asks for which expert. -/
def asks : IVec S4096x16 32 :=
  extui 32 (cmpi .eq (broadcastInDim S4096x16 ![0, 1] bcast_S4096x1_S4096x16_0_1 R) (broadcastInDim S4096x16 ![0, 1] bcast_S1x16_S4096x16_0_1 (broadcastInDim S1x16 ![1] bcast_S16_S1x16_1 (iotaInDim S16 32 0)))) natLt_1_32

/-- How many tokens up to each one ask for each expert. -/
def upTo : IVec S4096x16 32 :=
  Host.reduceWindow IntOp.addi ![4096, 1] ![1, 1] ![4095, 0] ![0, 0] (asks R) (broadcastInDim S_ ![] bcast_S_S_ (constantI S_ 32 0#32)) reduceWindows_S4096x16_S4096x16_w4096s1p4095_0_w1s1p0_0 h_S_

/-- The served mask. -/
def mask : FVec Ideal S4096x16 .f32 :=
  select (andi (cmpi .eq (asks R) (broadcastInDim S4096x16 ![] bcast_S_S4096x16 (constantI S_ 32 1#32))) (cmpi .slt (subi (upTo R) (asks R)) (broadcastInDim S4096x16 ![] bcast_S_S4096x16 (constantI S_ 32 204#32)))) (broadcastInDim S4096x16 ![] bcast_S_S4096x16 (constant S_ .f32 0x3F800000#32)) (broadcastInDim S4096x16 ![] bcast_S_S4096x16 (constant S_ .f32 0x00000000#32))

/-- The result. -/
def out : FVec Ideal S4096x512 .f32 :=
  Host.reduceAdd (mulf (broadcastInDim S4096x16x512 ![0, 1, 2] bcast_S4096x16x1_S4096x16x512_0_1_2 (id (broadcastInDim S4096x16x1 ![0, 1] bcast_S4096x16_S4096x16x1_0_1 (mask R)))) (Host.dotGeneral dot_S4096x256_S16x256x512_S4096x16x512_1_1_0_02_n_n none (extf .f32 X bitsLt_bf16_f32) (extf .f32 W bitsLt_bf16_f32))) (constant S_ .f32 0x00000000#32) reducesTo_S4096x16x512_S4096x512_d1 h_S_

/-! ## The running counts -/

theorem asks_apply (i : Fin 4096) (e : Fin 16) : asks R (ix2 i e) = BitVec.ofNat 32 (asksAt R i.val e.val) := by
  unfold asks asksAt
  rw [dif_pos i.isLt]
  pointwise []
  unfold IntOp.cmpi
  by_cases h : R (ix2 i 0) = BitVec.ofNat 32 e.val
  · rw [if_pos h, show (R (ix2 i 0) == BitVec.ofNat 32 e.val) = true from beq_iff_eq.2 h]; rfl
  · rw [if_neg h, show (R (ix2 i 0) == BitVec.ofNat 32 e.val) = false from beq_eq_false_iff_ne.2 h]; rfl

/-- A list's sum over `0 … n - 1` is the sum over that range. -/
theorem list_sum (g : ℕ → ℕ) (n : ℕ) : ((List.range n).map g).sum = ∑ k ∈ Finset.range n, g k := by
  induction n with
  | zero => rfl
  | succ n ih => rw [List.sum_range_succ, ih]; exact (Finset.sum_range_succ g n).symm

theorem upTo_apply (i : Fin 4096) (e : Fin 16) : upTo R (ix2 i e) = BitVec.ofNat 32 (asksBefore R (i.val + 1) e.val) := by
  rw [ix2_eq_valueIdx]
  refine (Routing.cumsum_rows (R := 4096) (Rm1 := 4095) (C := 16) rfl (asks R) (fun k e => asksAt R k e) (fun i e => ?_) _ ?_ _ _ i e).trans ?_
  · rw [← ix2_eq_valueIdx]; exact asks_apply R i e
  · rfl
  · rw [list_sum]; rfl

/-- The requests strictly before a token. -/
theorem before_apply (i : Fin 4096) (e : Fin 16) :
    IntOp.subi (upTo R (ix2 i e)) (asks R (ix2 i e)) = BitVec.ofNat 32 (asksBefore R i.val e.val) := by
  rw [upTo_apply, asks_apply, asksBefore_succ, BitVec.ofNat_add]
  exact BitVec.add_sub_cancel _ _

/-! ## The result -/

theorem mask_apply (i : Fin 4096) (e : Fin 16) : mask R (ix2 i e) = servedAt R i e := by
  unfold mask
  pointwise []
  rw [before_apply, asks_apply, asksAt_eq]
  have hb := asksBefore_le R i.val e.val
  have hi := i.isLt
  have hn : (BitVec.ofNat 32 (asksBefore R i.val e.val)).slt 204#32 = decide (asksBefore R i.val e.val < 204) := by
    have h0 : (BitVec.ofNat 32 (asksBefore R i.val e.val)).toInt = asksBefore R i.val e.val := by
      simp only [BitVec.toInt_eq_toNat_cond, BitVec.toNat_ofNat]; omega
    rw [BitVec.slt, h0]; exact decide_eq_decide.2 (Int.ofNat_lt (m := 204))
  unfold IntOp.cmpi servedAt ask
  dsimp only
  rw [hn]
  by_cases h : R (ix2 i 0) = word e <;> by_cases h' : asksBefore R i.val e.val < 204 <;> simp [h, h', IntOp.andi, Scalar.select]

theorem out_apply (i : Fin 4096) (f : Fin 512) :
    out X R W (ix2 i f) = ∑ e : Fin 16, servedAt R i e * ∑ d : Fin 256, X (ix2 i d) * W (ix3 e d f) := by
  unfold out
  rw [id_eq]
  pointwise [mask_apply]

end Cert.ReferenceIdeal.Whole
-- ==== Proof.Equation.lean ====
/-
# The kernel's result is the reference's

Each device's block of the tokens, of the requests and of the experts' matrices is a part of the whole arrays; counted over
the whole batch, the requests made earlier are the same, and so the two results agree, block by block.
-/
module

public import proofs.«01_k».proof.Proof.Run
public import proofs.«01_k».proof.Proof.Result
public import proofs.«01_k».proof.Proof.Value
public import Idealize.ShloMosaic.Lib.Layout

@[expose] public section

set_option maxRecDepth 16384

noncomputable section

namespace Cert.KernelIdeal.Wire

open Cert.KernelIdeal Cert.KernelIdeal.Gen Cert.Requests
open Idealize.ShloMosaic
open Idealize.ShloMosaic.TcCoe

/-! ## What the device stages is its argument -/

variable (m : (ℓ : Loc nD τ sig) → Buf (Elt Ideal) ℓ)

theorem xs_eq (c : Dev nD) : xs m c = m ((c : Thread nD τ).loc main_arg0) := by
  funext j; unfold xs iblk; blk_simp
  refine congrArg (m ((c : Thread nD τ).loc main_arg0)) (funext fun a => Fin.ext ?_)
  match a with
  | ⟨0, _⟩ => blk_simp; exact Nat.zero_add _
  | ⟨1, _⟩ => blk_simp; exact Nat.zero_add _

theorem rs_eq (c : Dev nD) : rs m c = m ((c : Thread nD τ).loc main_arg2) := by
  funext j; unfold rs iblk; blk_simp
  refine congrArg (m ((c : Thread nD τ).loc main_arg2)) (funext fun a => Fin.ext ?_)
  match a with
  | ⟨0, _⟩ => blk_simp; exact Nat.zero_add _
  | ⟨1, _⟩ => blk_simp; rfl

theorem ws_eq (c : Dev nD) : ws m c = m ((c : Thread nD τ).loc main_arg3) := by
  funext j; unfold ws iblk; blk_simp
  refine congrArg (m ((c : Thread nD τ).loc main_arg3)) (funext fun a => Fin.ext ?_)
  match a with
  | ⟨0, _⟩ => blk_simp; exact Nat.zero_add _
  | ⟨1, _⟩ => blk_simp; exact Nat.zero_add _
  | ⟨2, _⟩ => blk_simp; exact Nat.zero_add _

/-! ## Blocks of the whole arrays -/

variable (X : FVec Ideal ⟨2, ![4096, 256]⟩ .bf16) (R : IVec ⟨2, ![4096, 1]⟩ 32) (W : FVec Ideal ⟨3, ![16, 256, 512]⟩ .bf16)

/-- Device `c`'s blocks of the tokens, -/
def xb (c : Dev nD) : Vec Ideal S1024x256 .bf16 := Layout.block ⟨2, ![1024, 256]⟩ ⟨2, ![4096, 256]⟩ 0 4 c X
/-- of the requests, -/
def rb (c : Dev nD) : Vec Ideal S1024x1 .i32 := Layout.block ⟨2, ![1024, 1]⟩ ⟨2, ![4096, 1]⟩ 0 4 c R
/-- and of the experts' matrices. -/
def wb (c : Dev nD) : Vec Ideal S4x256x512 .bf16 := Layout.block ⟨3, ![4, 256, 512]⟩ ⟨3, ![16, 256, 512]⟩ 0 4 c W

set_option backward.proofsInPublic true in
/-- Token `t` of device `c`, as a token of the whole batch. -/
def whole (c : Dev nD) (t : Fin 1024) : Fin 4096 := ⟨c.val * 1024 + t.val, by have h : c.val < 4 := c.isLt; have := t.isLt; omega⟩

theorem xb_apply (c : Dev nD) (t : Fin 1024) (d : Fin 256) : xb X c (ix2 t d) = X (ix2 (whole c t) d) := by
  refine congrArg X (funext fun a => ?_)
  match a with
  | ⟨0, _⟩ => rfl
  | ⟨1, _⟩ => rfl

theorem rb_apply (c : Dev nD) (t : Fin 1024) : rb R c (ix2 t 0) = R (ix2 (whole c t) 0) := by
  refine congrArg R (funext fun a => ?_)
  match a with
  | ⟨0, _⟩ => rfl
  | ⟨1, _⟩ => rfl

theorem weight_eq (e : Fin 16) (d : Fin 256) (f : Fin 512) : weight (wb W) e d f = W (ix3 e d f) := by
  refine congrArg W (funext fun a => ?_)
  match a with
  | ⟨0, _⟩ => exact Fin.ext (Nat.div_add_mod' e.val 4)
  | ⟨1, _⟩ => rfl
  | ⟨2, _⟩ => rfl

/-! ## The same requests -/

theorem ask_eq (c : Dev nD) (t : Fin 1024) (e : Fin 16) : ask (rb R c (ix2 t 0)) e = asksAt R (c.val * 1024 + t.val) e.val := by
  rw [rb_apply]; exact (asksAt_eq R (whole c t) e).symm

theorem earlier_eq (c : Dev nD) (t : Fin 1024) (e : Fin 16) : earlier (rb R) c t e = asksBefore R (c.val * 1024 + t.val) e.val := by
  unfold earlier total within
  simp only [ask_eq]
  exact sum_before (fun k => asksAt R k e.val) c t

theorem served_eq (c : Dev nD) (t : Fin 1024) (e : Fin 16) : served (rb R) c t e = servedAt R (whole c t) e := by
  unfold served servedAt
  rw [rb_apply, earlier_eq]; rfl

/-! ## The same result -/

/-- Where an element of a device's block of the result is in the whole result. -/
theorem block_place (h : Layout.Tiles ⟨2, ![1024, 512]⟩ ⟨2, ![4096, 512]⟩ 0 4) (c : Dev nD) (t : Fin 1024) (f : Fin 512) :
    h.idx c (ix2 t f) = ix2 (whole c t) f := by
  funext a
  match a with
  | ⟨0, _⟩ => rfl
  | ⟨1, _⟩ => rfl

/-- Each device's result is its block of the reference's. -/
theorem res_eq (c : Dev nD) :
    res (xb X) (rb R) (wb W) c = Layout.block ⟨2, ![1024, 512]⟩ ⟨2, ![4096, 512]⟩ 0 4 c (Cert.ReferenceIdeal.Whole.out X R W) := by
  funext j
  idx_vars j
  rw [Layout.block_apply, block_place, res_apply, Cert.ReferenceIdeal.Whole.out_apply]
  refine Finset.sum_congr rfl fun e _ => ?_
  simp only [served_eq, xb_apply, weight_eq]

/-- The result of a launch whose arguments are the blocks of whole arrays. -/
theorem launch_eq (hX : ∀ c : Dev nD, m ((c : Thread nD τ).loc main_arg0) = xb X c)
    (hR : ∀ c : Dev nD, m ((c : Thread nD τ).loc main_arg2) = rb R c)
    (hW : ∀ c : Dev nD, m ((c : Thread nD τ).loc main_arg3) = wb W c) (c : Dev nD) :
    res (xs m) (rs m) (ws m) c = Layout.block ⟨2, ![1024, 512]⟩ ⟨2, ![4096, 512]⟩ 0 4 c (Cert.ReferenceIdeal.Whole.out X R W) := by
  have hx : xs m = xb X := funext fun c => (xs_eq m c).trans (hX c)
  have hr : rs m = rb R := funext fun c => (rs_eq m c).trans (hR c)
  have hw : ws m = wb W := funext fun c => (ws_eq m c).trans (hW c)
  rw [hx, hr, hw]
  exact res_eq X R W c

end Cert.KernelIdeal.Wire
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.KernelRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel, at its floats' words: it ends, leaves its arguments and brings every counter back to zero. -/
theorem frame_kernel : Cert.quiescent_Kernel := fun m g _ =>
  (θ_run Cert.Kernel.defs _ _).mono (fun _ h => ⟨fun c => (h.1 c).2, h.2⟩) (Cert.Kernel.Wire.run_main m g)

/-- The same over the extended reals. -/
theorem frame_ideal : Cert.quiescent_KernelIdeal := fun m g _ =>
  (θ_run Cert.KernelIdeal.defs _ _).mono (fun _ h => ⟨fun c => (h.1 c).2, h.2⟩) (Cert.KernelIdeal.Wire.run_main m g)

/-- The reference ends and leaves its arguments; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- Over the extended reals the kernel's blocks are those of the reference's result. -/
theorem values : Cert.algebraic_KernelIdeal_ReferenceIdeal := fun m g m' g' _ h =>
  ⟨Cert.ReferenceIdeal.Whole.out
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono
      (fun _ k c => ⟨(k.1 c).1.trans (Cert.KernelIdeal.Wire.launch_eq m _ _ _ (fun c => (h c).1) (fun c => (h c).2.2.1) (fun c => (h c).2.2.2) c),
        (k.1 c).2⟩) (Cert.KernelIdeal.Wire.run_main m g),
    (θ_run Cert.ReferenceIdeal.defs _ _).mono (fun _ k => k 0) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, values⟩

end Cert.Proof

end
